-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_MlpLast (m : (ℓ : Loc Cert.MlpLast.nD Cert.MlpLast.τ Cert.MlpLast.sig) → Buf (Elt Bits) ℓ) : Prop :=
  True

def Pre_MlpLastIdeal (m : (ℓ : Loc Cert.MlpLastIdeal.nD Cert.MlpLastIdeal.τ Cert.MlpLastIdeal.sig) → Buf (Elt Ideal) ℓ) : Prop :=
  True

def Pre_MlpLastReferenceIdeal (m : (ℓ : Loc Cert.MlpLastReferenceIdeal.nD Cert.MlpLastReferenceIdeal.τ Cert.MlpLastReferenceIdeal.sig) → Buf (Elt Ideal) ℓ) : Prop :=
  True

def Pre_MlpFirst (m : (ℓ : Loc Cert.MlpFirst.nD Cert.MlpFirst.τ Cert.MlpFirst.sig) → Buf (Elt Bits) ℓ) : Prop :=
  True

def Pre_MlpFirstIdeal (m : (ℓ : Loc Cert.MlpFirstIdeal.nD Cert.MlpFirstIdeal.τ Cert.MlpFirstIdeal.sig) → Buf (Elt Ideal) ℓ) : Prop :=
  True

def Pre_MlpFirstReferenceIdeal (m : (ℓ : Loc Cert.MlpFirstReferenceIdeal.nD Cert.MlpFirstReferenceIdeal.τ Cert.MlpFirstReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_MlpLast [hMlpLast : Cert.MlpLast.Facts] : Prop :=
  ∀ (m : (ℓ : Loc Cert.MlpLast.nD Cert.MlpLast.τ Cert.MlpLast.sig) → Buf (Elt Bits) ℓ) (g : Dev Cert.MlpLast.nD → PrngReg), Pre_MlpLast m →
    θ_run (Cert.MlpLast.defs (F := Bits)) (onTc (τ := Cert.MlpLast.τ) (Cert.MlpLast.main (F := Bits))) ⟨m, fun _ => 0, g⟩ (fun r => (∀ c : Dev Cert.MlpLast.nD,
      r.2.mem ((c.tc : Thread Cert.MlpLast.nD Cert.MlpLast.τ).loc Cert.MlpLast.main_arg0) = m ((c.tc : Thread Cert.MlpLast.nD Cert.MlpLast.τ).loc Cert.MlpLast.main_arg0)
      ∧ r.2.mem ((c.tc : Thread Cert.MlpLast.nD Cert.MlpLast.τ).loc Cert.MlpLast.main_arg1) = m ((c.tc : Thread Cert.MlpLast.nD Cert.MlpLast.τ).loc Cert.MlpLast.main_arg1)
      ∧ r.2.mem ((c.tc : Thread Cert.MlpLast.nD Cert.MlpLast.τ).loc Cert.MlpLast.main_arg2) = m ((c.tc : Thread Cert.MlpLast.nD Cert.MlpLast.τ).loc Cert.MlpLast.main_arg2)
      ∧ r.2.mem ((c.tc : Thread Cert.MlpLast.nD Cert.MlpLast.τ).loc Cert.MlpLast.main_arg3) = m ((c.tc : Thread Cert.MlpLast.nD Cert.MlpLast.τ).loc Cert.MlpLast.main_arg3)
      ∧ r.2.mem ((c.tc : Thread Cert.MlpLast.nD Cert.MlpLast.τ).loc Cert.MlpLast.main_arg4) = m ((c.tc : Thread Cert.MlpLast.nD Cert.MlpLast.τ).loc Cert.MlpLast.main_arg4))
      ∧ r.2.sem = fun _ => 0)

def quiescent_MlpLastIdeal [hMlpLastIdeal : Cert.MlpLastIdeal.Facts] : Prop :=
  ∀ (m : (ℓ : Loc Cert.MlpLastIdeal.nD Cert.MlpLastIdeal.τ Cert.MlpLastIdeal.sig) → Buf (Elt Ideal) ℓ) (g : Dev Cert.MlpLastIdeal.nD → PrngReg), Pre_MlpLastIdeal m →
    θ_run (Cert.MlpLastIdeal.defs (F := Ideal)) (onTc (τ := Cert.MlpLastIdeal.τ) (Cert.MlpLastIdeal.main (F := Ideal))) ⟨m, fun _ => 0, g⟩ (fun r => (∀ c : Dev Cert.MlpLastIdeal.nD,
      r.2.mem ((c.tc : Thread Cert.MlpLastIdeal.nD Cert.MlpLastIdeal.τ).loc Cert.MlpLastIdeal.main_arg0) = m ((c.tc : Thread Cert.MlpLastIdeal.nD Cert.MlpLastIdeal.τ).loc Cert.MlpLastIdeal.main_arg0)
      ∧ r.2.mem ((c.tc : Thread Cert.MlpLastIdeal.nD Cert.MlpLastIdeal.τ).loc Cert.MlpLastIdeal.main_arg1) = m ((c.tc : Thread Cert.MlpLastIdeal.nD Cert.MlpLastIdeal.τ).loc Cert.MlpLastIdeal.main_arg1)
      ∧ r.2.mem ((c.tc : Thread Cert.MlpLastIdeal.nD Cert.MlpLastIdeal.τ).loc Cert.MlpLastIdeal.main_arg2) = m ((c.tc : Thread Cert.MlpLastIdeal.nD Cert.MlpLastIdeal.τ).loc Cert.MlpLastIdeal.main_arg2)
      ∧ r.2.mem ((c.tc : Thread Cert.MlpLastIdeal.nD Cert.MlpLastIdeal.τ).loc Cert.MlpLastIdeal.main_arg3) = m ((c.tc : Thread Cert.MlpLastIdeal.nD Cert.MlpLastIdeal.τ).loc Cert.MlpLastIdeal.main_arg3)
      ∧ r.2.mem ((c.tc : Thread Cert.MlpLastIdeal.nD Cert.MlpLastIdeal.τ).loc Cert.MlpLastIdeal.main_arg4) = m ((c.tc : Thread Cert.MlpLastIdeal.nD Cert.MlpLastIdeal.τ).loc Cert.MlpLastIdeal.main_arg4))
      ∧ r.2.sem = fun _ => 0)

def quiescent_MlpLastReferenceIdeal [hMlpLastReferenceIdeal : Cert.MlpLastReferenceIdeal.Facts] : Prop :=
  ∀ (m : (ℓ : Loc Cert.MlpLastReferenceIdeal.nD Cert.MlpLastReferenceIdeal.τ Cert.MlpLastReferenceIdeal.sig) → Buf (Elt Ideal) ℓ) (g : Dev Cert.MlpLastReferenceIdeal.nD → PrngReg), Pre_MlpLastReferenceIdeal m →
    θ_run (Cert.MlpLastReferenceIdeal.defs (F := Ideal)) (onTc (τ := Cert.MlpLastReferenceIdeal.τ) (Cert.MlpLastReferenceIdeal.main (F := Ideal))) ⟨m, fun _ => 0, g⟩ (fun r => (∀ c : Dev Cert.MlpLastReferenceIdeal.nD,
      r.2.mem ((c.tc : Thread Cert.MlpLastReferenceIdeal.nD Cert.MlpLastReferenceIdeal.τ).loc Cert.MlpLastReferenceIdeal.main_arg0) = m ((c.tc : Thread Cert.MlpLastReferenceIdeal.nD Cert.MlpLastReferenceIdeal.τ).loc Cert.MlpLastReferenceIdeal.main_arg0)
      ∧ r.2.mem ((c.tc : Thread Cert.MlpLastReferenceIdeal.nD Cert.MlpLastReferenceIdeal.τ).loc Cert.MlpLastReferenceIdeal.main_arg1) = m ((c.tc : Thread Cert.MlpLastReferenceIdeal.nD Cert.MlpLastReferenceIdeal.τ).loc Cert.MlpLastReferenceIdeal.main_arg1)
      ∧ r.2.mem ((c.tc : Thread Cert.MlpLastReferenceIdeal.nD Cert.MlpLastReferenceIdeal.τ).loc Cert.MlpLastReferenceIdeal.main_arg2) = m ((c.tc : Thread Cert.MlpLastReferenceIdeal.nD Cert.MlpLastReferenceIdeal.τ).loc Cert.MlpLastReferenceIdeal.main_arg2)
      ∧ r.2.mem ((c.tc : Thread Cert.MlpLastReferenceIdeal.nD Cert.MlpLastReferenceIdeal.τ).loc Cert.MlpLastReferenceIdeal.main_arg3) = m ((c.tc : Thread Cert.MlpLastReferenceIdeal.nD Cert.MlpLastReferenceIdeal.τ).loc Cert.MlpLastReferenceIdeal.main_arg3)
      ∧ r.2.mem ((c.tc : Thread Cert.MlpLastReferenceIdeal.nD Cert.MlpLastReferenceIdeal.τ).loc Cert.MlpLastReferenceIdeal.main_arg4) = m ((c.tc : Thread Cert.MlpLastReferenceIdeal.nD Cert.MlpLastReferenceIdeal.τ).loc Cert.MlpLastReferenceIdeal.main_arg4))
      ∧ r.2.sem = fun _ => 0)

def quiescent_MlpFirst [hMlpFirst : Cert.MlpFirst.Facts] : Prop :=
  ∀ (m : (ℓ : Loc Cert.MlpFirst.nD Cert.MlpFirst.τ Cert.MlpFirst.sig) → Buf (Elt Bits) ℓ) (g : Dev Cert.MlpFirst.nD → PrngReg), Pre_MlpFirst m →
    θ_run (Cert.MlpFirst.defs (F := Bits)) (onTc (τ := Cert.MlpFirst.τ) (Cert.MlpFirst.main (F := Bits))) ⟨m, fun _ => 0, g⟩ (fun r => (∀ c : Dev Cert.MlpFirst.nD,
      r.2.mem ((c.tc : Thread Cert.MlpFirst.nD Cert.MlpFirst.τ).loc Cert.MlpFirst.main_arg0) = m ((c.tc : Thread Cert.MlpFirst.nD Cert.MlpFirst.τ).loc Cert.MlpFirst.main_arg0)
      ∧ r.2.mem ((c.tc : Thread Cert.MlpFirst.nD Cert.MlpFirst.τ).loc Cert.MlpFirst.main_arg1) = m ((c.tc : Thread Cert.MlpFirst.nD Cert.MlpFirst.τ).loc Cert.MlpFirst.main_arg1)
      ∧ r.2.mem ((c.tc : Thread Cert.MlpFirst.nD Cert.MlpFirst.τ).loc Cert.MlpFirst.main_arg2) = m ((c.tc : Thread Cert.MlpFirst.nD Cert.MlpFirst.τ).loc Cert.MlpFirst.main_arg2)
      ∧ r.2.mem ((c.tc : Thread Cert.MlpFirst.nD Cert.MlpFirst.τ).loc Cert.MlpFirst.main_arg3) = m ((c.tc : Thread Cert.MlpFirst.nD Cert.MlpFirst.τ).loc Cert.MlpFirst.main_arg3)
      ∧ r.2.mem ((c.tc : Thread Cert.MlpFirst.nD Cert.MlpFirst.τ).loc Cert.MlpFirst.main_arg4) = m ((c.tc : Thread Cert.MlpFirst.nD Cert.MlpFirst.τ).loc Cert.MlpFirst.main_arg4))
      ∧ r.2.sem = fun _ => 0)

def quiescent_MlpFirstIdeal [hMlpFirstIdeal : Cert.MlpFirstIdeal.Facts] : Prop :=
  ∀ (m : (ℓ : Loc Cert.MlpFirstIdeal.nD Cert.MlpFirstIdeal.τ Cert.MlpFirstIdeal.sig) → Buf (Elt Ideal) ℓ) (g : Dev Cert.MlpFirstIdeal.nD → PrngReg), Pre_MlpFirstIdeal m →
    θ_run (Cert.MlpFirstIdeal.defs (F := Ideal)) (onTc (τ := Cert.MlpFirstIdeal.τ) (Cert.MlpFirstIdeal.main (F := Ideal))) ⟨m, fun _ => 0, g⟩ (fun r => (∀ c : Dev Cert.MlpFirstIdeal.nD,
      r.2.mem ((c.tc : Thread Cert.MlpFirstIdeal.nD Cert.MlpFirstIdeal.τ).loc Cert.MlpFirstIdeal.main_arg0) = m ((c.tc : Thread Cert.MlpFirstIdeal.nD Cert.MlpFirstIdeal.τ).loc Cert.MlpFirstIdeal.main_arg0)
      ∧ r.2.mem ((c.tc : Thread Cert.MlpFirstIdeal.nD Cert.MlpFirstIdeal.τ).loc Cert.MlpFirstIdeal.main_arg1) = m ((c.tc : Thread Cert.MlpFirstIdeal.nD Cert.MlpFirstIdeal.τ).loc Cert.MlpFirstIdeal.main_arg1)
      ∧ r.2.mem ((c.tc : Thread Cert.MlpFirstIdeal.nD Cert.MlpFirstIdeal.τ).loc Cert.MlpFirstIdeal.main_arg2) = m ((c.tc : Thread Cert.MlpFirstIdeal.nD Cert.MlpFirstIdeal.τ).loc Cert.MlpFirstIdeal.main_arg2)
      ∧ r.2.mem ((c.tc : Thread Cert.MlpFirstIdeal.nD Cert.MlpFirstIdeal.τ).loc Cert.MlpFirstIdeal.main_arg3) = m ((c.tc : Thread Cert.MlpFirstIdeal.nD Cert.MlpFirstIdeal.τ).loc Cert.MlpFirstIdeal.main_arg3)
      ∧ r.2.mem ((c.tc : Thread Cert.MlpFirstIdeal.nD Cert.MlpFirstIdeal.τ).loc Cert.MlpFirstIdeal.main_arg4) = m ((c.tc : Thread Cert.MlpFirstIdeal.nD Cert.MlpFirstIdeal.τ).loc Cert.MlpFirstIdeal.main_arg4))
      ∧ r.2.sem = fun _ => 0)

def quiescent_MlpFirstReferenceIdeal [hMlpFirstReferenceIdeal : Cert.MlpFirstReferenceIdeal.Facts] : Prop :=
  ∀ (m : (ℓ : Loc Cert.MlpFirstReferenceIdeal.nD Cert.MlpFirstReferenceIdeal.τ Cert.MlpFirstReferenceIdeal.sig) → Buf (Elt Ideal) ℓ) (g : Dev Cert.MlpFirstReferenceIdeal.nD → PrngReg), Pre_MlpFirstReferenceIdeal m →
    θ_run (Cert.MlpFirstReferenceIdeal.defs (F := Ideal)) (onTc (τ := Cert.MlpFirstReferenceIdeal.τ) (Cert.MlpFirstReferenceIdeal.main (F := Ideal))) ⟨m, fun _ => 0, g⟩ (fun r => (∀ c : Dev Cert.MlpFirstReferenceIdeal.nD,
      r.2.mem ((c.tc : Thread Cert.MlpFirstReferenceIdeal.nD Cert.MlpFirstReferenceIdeal.τ).loc Cert.MlpFirstReferenceIdeal.main_arg0) = m ((c.tc : Thread Cert.MlpFirstReferenceIdeal.nD Cert.MlpFirstReferenceIdeal.τ).loc Cert.MlpFirstReferenceIdeal.main_arg0)
      ∧ r.2.mem ((c.tc : Thread Cert.MlpFirstReferenceIdeal.nD Cert.MlpFirstReferenceIdeal.τ).loc Cert.MlpFirstReferenceIdeal.main_arg1) = m ((c.tc : Thread Cert.MlpFirstReferenceIdeal.nD Cert.MlpFirstReferenceIdeal.τ).loc Cert.MlpFirstReferenceIdeal.main_arg1)
      ∧ r.2.mem ((c.tc : Thread Cert.MlpFirstReferenceIdeal.nD Cert.MlpFirstReferenceIdeal.τ).loc Cert.MlpFirstReferenceIdeal.main_arg2) = m ((c.tc : Thread Cert.MlpFirstReferenceIdeal.nD Cert.MlpFirstReferenceIdeal.τ).loc Cert.MlpFirstReferenceIdeal.main_arg2)
      ∧ r.2.mem ((c.tc : Thread Cert.MlpFirstReferenceIdeal.nD Cert.MlpFirstReferenceIdeal.τ).loc Cert.MlpFirstReferenceIdeal.main_arg3) = m ((c.tc : Thread Cert.MlpFirstReferenceIdeal.nD Cert.MlpFirstReferenceIdeal.τ).loc Cert.MlpFirstReferenceIdeal.main_arg3)
      ∧ r.2.mem ((c.tc : Thread Cert.MlpFirstReferenceIdeal.nD Cert.MlpFirstReferenceIdeal.τ).loc Cert.MlpFirstReferenceIdeal.main_arg4) = m ((c.tc : Thread Cert.MlpFirstReferenceIdeal.nD Cert.MlpFirstReferenceIdeal.τ).loc Cert.MlpFirstReferenceIdeal.main_arg4))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6)
      ∧ r.2.mem ((c.tc : Thread Cert.Conv.nD Cert.Conv.τ).loc Cert.Conv.main_arg7) = m ((c.tc : Thread Cert.Conv.nD Cert.Conv.τ).loc Cert.Conv.main_arg7)
      ∧ r.2.mem ((c.tc : Thread Cert.Conv.nD Cert.Conv.τ).loc Cert.Conv.main_arg8) = m ((c.tc : Thread Cert.Conv.nD Cert.Conv.τ).loc Cert.Conv.main_arg8)
      ∧ r.2.mem ((c.tc : Thread Cert.Conv.nD Cert.Conv.τ).loc Cert.Conv.main_arg9) = m ((c.tc : Thread Cert.Conv.nD Cert.Conv.τ).loc Cert.Conv.main_arg9))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
      ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
      ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8)
      ∧ r.2.mem ((c.tc : Thread Cert.ConvIdeal.nD Cert.ConvIdeal.τ).loc Cert.ConvIdeal.main_arg9) = m ((c.tc : Thread Cert.ConvIdeal.nD Cert.ConvIdeal.τ).loc Cert.ConvIdeal.main_arg9))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4)
      ∧ r.2.mem ((c.tc : Thread Cert.ConvReferenceIdeal.nD Cert.ConvReferenceIdeal.τ).loc Cert.ConvReferenceIdeal.main_arg5) = m ((c.tc : Thread Cert.ConvReferenceIdeal.nD Cert.ConvReferenceIdeal.τ).loc Cert.ConvReferenceIdeal.main_arg5)
      ∧ r.2.mem ((c.tc : Thread Cert.ConvReferenceIdeal.nD Cert.ConvReferenceIdeal.τ).loc Cert.ConvReferenceIdeal.main_arg6) = m ((c.tc : Thread Cert.ConvReferenceIdeal.nD Cert.ConvReferenceIdeal.τ).loc Cert.ConvReferenceIdeal.main_arg6)
      ∧ r.2.mem ((c.tc : Thread Cert.ConvReferenceIdeal.nD Cert.ConvReferenceIdeal.τ).loc Cert.ConvReferenceIdeal.main_arg7) = m ((c.tc : Thread Cert.ConvReferenceIdeal.nD Cert.ConvReferenceIdeal.τ).loc Cert.ConvReferenceIdeal.main_arg7)
      ∧ r.2.mem ((c.tc : Thread Cert.ConvReferenceIdeal.nD Cert.ConvReferenceIdeal.τ).loc Cert.ConvReferenceIdeal.main_arg8) = m ((c.tc : Thread Cert.ConvReferenceIdeal.nD Cert.ConvReferenceIdeal.τ).loc Cert.ConvReferenceIdeal.main_arg8)
      ∧ r.2.mem ((c.tc : Thread Cert.ConvReferenceIdeal.nD Cert.ConvReferenceIdeal.τ).loc Cert.ConvReferenceIdeal.main_arg9) = m ((c.tc : Thread Cert.ConvReferenceIdeal.nD Cert.ConvReferenceIdeal.τ).loc Cert.ConvReferenceIdeal.main_arg9))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "qscale" .f32 0x3E0293EE#32 (((Real.log 2)⁻¹ * (11863283 / 134217728) : ℝ) : EReal)

def preserves_MlpLast_MlpLastIdeal : Prop :=
  True

def algebraic_MlpLastIdeal_MlpLastReferenceIdeal [hMlpLastIdeal : Cert.MlpLastIdeal.Facts] [hMlpLastReferenceIdeal : Cert.MlpLastReferenceIdeal.Facts] : Prop :=
  ∀ (m : (ℓ : Loc Cert.MlpLastIdeal.nD Cert.MlpLastIdeal.τ Cert.MlpLastIdeal.sig) → Buf (Elt Ideal) ℓ) (g : Dev Cert.MlpLastIdeal.nD → PrngReg)
    (m' : (ℓ : Loc Cert.MlpLastReferenceIdeal.nD Cert.MlpLastReferenceIdeal.τ Cert.MlpLastReferenceIdeal.sig) → Buf (Elt Ideal) ℓ) (g' : Dev Cert.MlpLastReferenceIdeal.nD → PrngReg), Pre_MlpLastIdeal m →
    (∀ c : Dev Cert.MlpLastIdeal.nD,
      m' ((c.tc : Thread Cert.MlpLastReferenceIdeal.nD Cert.MlpLastReferenceIdeal.τ).loc Cert.MlpLastReferenceIdeal.main_arg0) = m ((c.tc : Thread Cert.MlpLastIdeal.nD Cert.MlpLastIdeal.τ).loc Cert.MlpLastIdeal.main_arg0)
      ∧ m' ((c.tc : Thread Cert.MlpLastReferenceIdeal.nD Cert.MlpLastReferenceIdeal.τ).loc Cert.MlpLastReferenceIdeal.main_arg1) = m ((c.tc : Thread Cert.MlpLastIdeal.nD Cert.MlpLastIdeal.τ).loc Cert.MlpLastIdeal.main_arg1)
      ∧ m' ((c.tc : Thread Cert.MlpLastReferenceIdeal.nD Cert.MlpLastReferenceIdeal.τ).loc Cert.MlpLastReferenceIdeal.main_arg2) = m ((c.tc : Thread Cert.MlpLastIdeal.nD Cert.MlpLastIdeal.τ).loc Cert.MlpLastIdeal.main_arg2)
      ∧ m' ((c.tc : Thread Cert.MlpLastReferenceIdeal.nD Cert.MlpLastReferenceIdeal.τ).loc Cert.MlpLastReferenceIdeal.main_arg3) = m ((c.tc : Thread Cert.MlpLastIdeal.nD Cert.MlpLastIdeal.τ).loc Cert.MlpLastIdeal.main_arg3)
      ∧ m' ((c.tc : Thread Cert.MlpLastReferenceIdeal.nD Cert.MlpLastReferenceIdeal.τ).loc Cert.MlpLastReferenceIdeal.main_arg4) = m ((c.tc : Thread Cert.MlpLastIdeal.nD Cert.MlpLastIdeal.τ).loc Cert.MlpLastIdeal.main_arg4)) →
    ∃ (v0 : (c : Dev Cert.MlpLastIdeal.nD) → Buf (Elt Ideal) ((c.tc : Thread Cert.MlpLastIdeal.nD Cert.MlpLastIdeal.τ).loc Cert.MlpLastIdeal.main_v5)),
      θ_run (Cert.MlpLastIdeal.defs (F := Ideal)) (onTc (τ := Cert.MlpLastIdeal.τ) (Cert.MlpLastIdeal.main (F := Ideal))) ⟨m, fun _ => 0, g⟩ (fun r => ∀ c : Dev Cert.MlpLastIdeal.nD,
          r.2.mem ((c.tc : Thread Cert.MlpLastIdeal.nD Cert.MlpLastIdeal.τ).loc Cert.MlpLastIdeal.main_v5) = v0 c
          ∧ r.2.mem ((c.tc : Thread Cert.MlpLastIdeal.nD Cert.MlpLastIdeal.τ).loc Cert.MlpLastIdeal.main_arg0) = m ((c.tc : Thread Cert.MlpLastIdeal.nD Cert.MlpLastIdeal.τ).loc Cert.MlpLastIdeal.main_arg0)
          ∧ r.2.mem ((c.tc : Thread Cert.MlpLastIdeal.nD Cert.MlpLastIdeal.τ).loc Cert.MlpLastIdeal.main_arg1) = m ((c.tc : Thread Cert.MlpLastIdeal.nD Cert.MlpLastIdeal.τ).loc Cert.MlpLastIdeal.main_arg1)
          ∧ r.2.mem ((c.tc : Thread Cert.MlpLastIdeal.nD Cert.MlpLastIdeal.τ).loc Cert.MlpLastIdeal.main_arg2) = m ((c.tc : Thread Cert.MlpLastIdeal.nD Cert.MlpLastIdeal.τ).loc Cert.MlpLastIdeal.main_arg2)
          ∧ r.2.mem ((c.tc : Thread Cert.MlpLastIdeal.nD Cert.MlpLastIdeal.τ).loc Cert.MlpLastIdeal.main_arg3) = m ((c.tc : Thread Cert.MlpLastIdeal.nD Cert.MlpLastIdeal.τ).loc Cert.MlpLastIdeal.main_arg3)
          ∧ r.2.mem ((c.tc : Thread Cert.MlpLastIdeal.nD Cert.MlpLastIdeal.τ).loc Cert.MlpLastIdeal.main_arg4) = m ((c.tc : Thread Cert.MlpLastIdeal.nD Cert.MlpLastIdeal.τ).loc Cert.MlpLastIdeal.main_arg4))
      ∧ θ_run (Cert.MlpLastReferenceIdeal.defs (F := Ideal)) (onTc (τ := Cert.MlpLastReferenceIdeal.τ) (Cert.MlpLastReferenceIdeal.main (F := Ideal))) ⟨m', fun _ => 0, g'⟩ (fun r => ∀ c : Dev Cert.MlpLastReferenceIdeal.nD,
          r.2.mem ((c.tc : Thread Cert.MlpLastReferenceIdeal.nD Cert.MlpLastReferenceIdeal.τ).loc Cert.MlpLastReferenceIdeal.main_v37) = v0 c
          ∧ r.2.mem ((c.tc : Thread Cert.MlpLastReferenceIdeal.nD Cert.MlpLastReferenceIdeal.τ).loc Cert.MlpLastReferenceIdeal.main_arg0) = m' ((c.tc : Thread Cert.MlpLastReferenceIdeal.nD Cert.MlpLastReferenceIdeal.τ).loc Cert.MlpLastReferenceIdeal.main_arg0)
          ∧ r.2.mem ((c.tc : Thread Cert.MlpLastReferenceIdeal.nD Cert.MlpLastReferenceIdeal.τ).loc Cert.MlpLastReferenceIdeal.main_arg1) = m' ((c.tc : Thread Cert.MlpLastReferenceIdeal.nD Cert.MlpLastReferenceIdeal.τ).loc Cert.MlpLastReferenceIdeal.main_arg1)
          ∧ r.2.mem ((c.tc : Thread Cert.MlpLastReferenceIdeal.nD Cert.MlpLastReferenceIdeal.τ).loc Cert.MlpLastReferenceIdeal.main_arg2) = m' ((c.tc : Thread Cert.MlpLastReferenceIdeal.nD Cert.MlpLastReferenceIdeal.τ).loc Cert.MlpLastReferenceIdeal.main_arg2)
          ∧ r.2.mem ((c.tc : Thread Cert.MlpLastReferenceIdeal.nD Cert.MlpLastReferenceIdeal.τ).loc Cert.MlpLastReferenceIdeal.main_arg3) = m' ((c.tc : Thread Cert.MlpLastReferenceIdeal.nD Cert.MlpLastReferenceIdeal.τ).loc Cert.MlpLastReferenceIdeal.main_arg3)
          ∧ r.2.mem ((c.tc : Thread Cert.MlpLastReferenceIdeal.nD Cert.MlpLastReferenceIdeal.τ).loc Cert.MlpLastReferenceIdeal.main_arg4) = m' ((c.tc : Thread Cert.MlpLastReferenceIdeal.nD Cert.MlpLastReferenceIdeal.τ).loc Cert.MlpLastReferenceIdeal.main_arg4))

def preserves_MlpFirst_MlpFirstIdeal : Prop :=
  True

def algebraic_MlpFirstIdeal_MlpFirstReferenceIdeal [hMlpFirstIdeal : Cert.MlpFirstIdeal.Facts] [hMlpFirstReferenceIdeal : Cert.MlpFirstReferenceIdeal.Facts] : Prop :=
  ∀ (m : (ℓ : Loc Cert.MlpFirstIdeal.nD Cert.MlpFirstIdeal.τ Cert.MlpFirstIdeal.sig) → Buf (Elt Ideal) ℓ) (g : Dev Cert.MlpFirstIdeal.nD → PrngReg)
    (m' : (ℓ : Loc Cert.MlpFirstReferenceIdeal.nD Cert.MlpFirstReferenceIdeal.τ Cert.MlpFirstReferenceIdeal.sig) → Buf (Elt Ideal) ℓ) (g' : Dev Cert.MlpFirstReferenceIdeal.nD → PrngReg), Pre_MlpFirstIdeal m →
    (∀ c : Dev Cert.MlpFirstIdeal.nD,
      m' ((c.tc : Thread Cert.MlpFirstReferenceIdeal.nD Cert.MlpFirstReferenceIdeal.τ).loc Cert.MlpFirstReferenceIdeal.main_arg0) = m ((c.tc : Thread Cert.MlpFirstIdeal.nD Cert.MlpFirstIdeal.τ).loc Cert.MlpFirstIdeal.main_arg0)
      ∧ m' ((c.tc : Thread Cert.MlpFirstReferenceIdeal.nD Cert.MlpFirstReferenceIdeal.τ).loc Cert.MlpFirstReferenceIdeal.main_arg1) = m ((c.tc : Thread Cert.MlpFirstIdeal.nD Cert.MlpFirstIdeal.τ).loc Cert.MlpFirstIdeal.main_arg1)
      ∧ m' ((c.tc : Thread Cert.MlpFirstReferenceIdeal.nD Cert.MlpFirstReferenceIdeal.τ).loc Cert.MlpFirstReferenceIdeal.main_arg2) = m ((c.tc : Thread Cert.MlpFirstIdeal.nD Cert.MlpFirstIdeal.τ).loc Cert.MlpFirstIdeal.main_arg2)
      ∧ m' ((c.tc : Thread Cert.MlpFirstReferenceIdeal.nD Cert.MlpFirstReferenceIdeal.τ).loc Cert.MlpFirstReferenceIdeal.main_arg3) = m ((c.tc : Thread Cert.MlpFirstIdeal.nD Cert.MlpFirstIdeal.τ).loc Cert.MlpFirstIdeal.main_arg3)
      ∧ m' ((c.tc : Thread Cert.MlpFirstReferenceIdeal.nD Cert.MlpFirstReferenceIdeal.τ).loc Cert.MlpFirstReferenceIdeal.main_arg4) = m ((c.tc : Thread Cert.MlpFirstIdeal.nD Cert.MlpFirstIdeal.τ).loc Cert.MlpFirstIdeal.main_arg4)) →
    ∃ (v0 : (c : Dev Cert.MlpFirstIdeal.nD) → Buf (Elt Ideal) ((c.tc : Thread Cert.MlpFirstIdeal.nD Cert.MlpFirstIdeal.τ).loc Cert.MlpFirstIdeal.main_v5)),
      θ_run (Cert.MlpFirstIdeal.defs (F := Ideal)) (onTc (τ := Cert.MlpFirstIdeal.τ) (Cert.MlpFirstIdeal.main (F := Ideal))) ⟨m, fun _ => 0, g⟩ (fun r => ∀ c : Dev Cert.MlpFirstIdeal.nD,
          r.2.mem ((c.tc : Thread Cert.MlpFirstIdeal.nD Cert.MlpFirstIdeal.τ).loc Cert.MlpFirstIdeal.main_v5) = v0 c
          ∧ r.2.mem ((c.tc : Thread Cert.MlpFirstIdeal.nD Cert.MlpFirstIdeal.τ).loc Cert.MlpFirstIdeal.main_arg0) = m ((c.tc : Thread Cert.MlpFirstIdeal.nD Cert.MlpFirstIdeal.τ).loc Cert.MlpFirstIdeal.main_arg0)
          ∧ r.2.mem ((c.tc : Thread Cert.MlpFirstIdeal.nD Cert.MlpFirstIdeal.τ).loc Cert.MlpFirstIdeal.main_arg1) = m ((c.tc : Thread Cert.MlpFirstIdeal.nD Cert.MlpFirstIdeal.τ).loc Cert.MlpFirstIdeal.main_arg1)
          ∧ r.2.mem ((c.tc : Thread Cert.MlpFirstIdeal.nD Cert.MlpFirstIdeal.τ).loc Cert.MlpFirstIdeal.main_arg2) = m ((c.tc : Thread Cert.MlpFirstIdeal.nD Cert.MlpFirstIdeal.τ).loc Cert.MlpFirstIdeal.main_arg2)
          ∧ r.2.mem ((c.tc : Thread Cert.MlpFirstIdeal.nD Cert.MlpFirstIdeal.τ).loc Cert.MlpFirstIdeal.main_arg3) = m ((c.tc : Thread Cert.MlpFirstIdeal.nD Cert.MlpFirstIdeal.τ).loc Cert.MlpFirstIdeal.main_arg3)
          ∧ r.2.mem ((c.tc : Thread Cert.MlpFirstIdeal.nD Cert.MlpFirstIdeal.τ).loc Cert.MlpFirstIdeal.main_arg4) = m ((c.tc : Thread Cert.MlpFirstIdeal.nD Cert.MlpFirstIdeal.τ).loc Cert.MlpFirstIdeal.main_arg4))
      ∧ θ_run (Cert.MlpFirstReferenceIdeal.defs (F := Ideal)) (onTc (τ := Cert.MlpFirstReferenceIdeal.τ) (Cert.MlpFirstReferenceIdeal.main (F := Ideal))) ⟨m', fun _ => 0, g'⟩ (fun r => ∀ c : Dev Cert.MlpFirstReferenceIdeal.nD,
          r.2.mem ((c.tc : Thread Cert.MlpFirstReferenceIdeal.nD Cert.MlpFirstReferenceIdeal.τ).loc Cert.MlpFirstReferenceIdeal.main_v24) = v0 c
          ∧ r.2.mem ((c.tc : Thread Cert.MlpFirstReferenceIdeal.nD Cert.MlpFirstReferenceIdeal.τ).loc Cert.MlpFirstReferenceIdeal.main_arg0) = m' ((c.tc : Thread Cert.MlpFirstReferenceIdeal.nD Cert.MlpFirstReferenceIdeal.τ).loc Cert.MlpFirstReferenceIdeal.main_arg0)
          ∧ r.2.mem ((c.tc : Thread Cert.MlpFirstReferenceIdeal.nD Cert.MlpFirstReferenceIdeal.τ).loc Cert.MlpFirstReferenceIdeal.main_arg1) = m' ((c.tc : Thread Cert.MlpFirstReferenceIdeal.nD Cert.MlpFirstReferenceIdeal.τ).loc Cert.MlpFirstReferenceIdeal.main_arg1)
          ∧ r.2.mem ((c.tc : Thread Cert.MlpFirstReferenceIdeal.nD Cert.MlpFirstReferenceIdeal.τ).loc Cert.MlpFirstReferenceIdeal.main_arg2) = m' ((c.tc : Thread Cert.MlpFirstReferenceIdeal.nD Cert.MlpFirstReferenceIdeal.τ).loc Cert.MlpFirstReferenceIdeal.main_arg2)
          ∧ r.2.mem ((c.tc : Thread Cert.MlpFirstReferenceIdeal.nD Cert.MlpFirstReferenceIdeal.τ).loc Cert.MlpFirstReferenceIdeal.main_arg3) = m' ((c.tc : Thread Cert.MlpFirstReferenceIdeal.nD Cert.MlpFirstReferenceIdeal.τ).loc Cert.MlpFirstReferenceIdeal.main_arg3)
          ∧ r.2.mem ((c.tc : Thread Cert.MlpFirstReferenceIdeal.nD Cert.MlpFirstReferenceIdeal.τ).loc Cert.MlpFirstReferenceIdeal.main_arg4) = m' ((c.tc : Thread Cert.MlpFirstReferenceIdeal.nD Cert.MlpFirstReferenceIdeal.τ).loc Cert.MlpFirstReferenceIdeal.main_arg4))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)
      ∧ m' ((c.tc : Thread Cert.ConvReferenceIdeal.nD Cert.ConvReferenceIdeal.τ).loc Cert.ConvReferenceIdeal.main_arg3) = m ((c.tc : Thread Cert.ConvIdeal.nD Cert.ConvIdeal.τ).loc Cert.ConvIdeal.main_arg3)
      ∧ m' ((c.tc : Thread Cert.ConvReferenceIdeal.nD Cert.ConvReferenceIdeal.τ).loc Cert.ConvReferenceIdeal.main_arg4) = m ((c.tc : Thread Cert.ConvIdeal.nD Cert.ConvIdeal.τ).loc Cert.ConvIdeal.main_arg4)
      ∧ m' ((c.tc : Thread Cert.ConvReferenceIdeal.nD Cert.ConvReferenceIdeal.τ).loc Cert.ConvReferenceIdeal.main_arg5) = m ((c.tc : Thread Cert.ConvIdeal.nD Cert.ConvIdeal.τ).loc Cert.ConvIdeal.main_arg5)
      ∧ m' ((c.tc : Thread Cert.ConvReferenceIdeal.nD Cert.ConvReferenceIdeal.τ).loc Cert.ConvReferenceIdeal.main_arg6) = m ((c.tc : Thread Cert.ConvIdeal.nD Cert.ConvIdeal.τ).loc Cert.ConvIdeal.main_arg6)
      ∧ m' ((c.tc : Thread Cert.ConvReferenceIdeal.nD Cert.ConvReferenceIdeal.τ).loc Cert.ConvReferenceIdeal.main_arg7) = m ((c.tc : Thread Cert.ConvIdeal.nD Cert.ConvIdeal.τ).loc Cert.ConvIdeal.main_arg7)
      ∧ m' ((c.tc : Thread Cert.ConvReferenceIdeal.nD Cert.ConvReferenceIdeal.τ).loc Cert.ConvReferenceIdeal.main_arg8) = m ((c.tc : Thread Cert.ConvIdeal.nD Cert.ConvIdeal.τ).loc Cert.ConvIdeal.main_arg8)
      ∧ m' ((c.tc : Thread Cert.ConvReferenceIdeal.nD Cert.ConvReferenceIdeal.τ).loc Cert.ConvReferenceIdeal.main_arg9) = m ((c.tc : Thread Cert.ConvIdeal.nD Cert.ConvIdeal.τ).loc Cert.ConvIdeal.main_arg9)) →
    ∃ (v0 : (c : Dev Cert.ConvIdeal.nD) → Buf (Elt Ideal) ((c.tc : Thread Cert.ConvIdeal.nD Cert.ConvIdeal.τ).loc Cert.ConvIdeal.main_v19)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v19) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
          ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
          ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8)
          ∧ r.2.mem ((c.tc : Thread Cert.ConvIdeal.nD Cert.ConvIdeal.τ).loc Cert.ConvIdeal.main_arg9) = m ((c.tc : Thread Cert.ConvIdeal.nD Cert.ConvIdeal.τ).loc Cert.ConvIdeal.main_arg9))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v286) = v0 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3)
          ∧ r.2.mem ((c.tc : Thread Cert.ConvReferenceIdeal.nD Cert.ConvReferenceIdeal.τ).loc Cert.ConvReferenceIdeal.main_arg4) = m' ((c.tc : Thread Cert.ConvReferenceIdeal.nD Cert.ConvReferenceIdeal.τ).loc Cert.ConvReferenceIdeal.main_arg4)
          ∧ r.2.mem ((c.tc : Thread Cert.ConvReferenceIdeal.nD Cert.ConvReferenceIdeal.τ).loc Cert.ConvReferenceIdeal.main_arg5) = m' ((c.tc : Thread Cert.ConvReferenceIdeal.nD Cert.ConvReferenceIdeal.τ).loc Cert.ConvReferenceIdeal.main_arg5)
          ∧ r.2.mem ((c.tc : Thread Cert.ConvReferenceIdeal.nD Cert.ConvReferenceIdeal.τ).loc Cert.ConvReferenceIdeal.main_arg6) = m' ((c.tc : Thread Cert.ConvReferenceIdeal.nD Cert.ConvReferenceIdeal.τ).loc Cert.ConvReferenceIdeal.main_arg6)
          ∧ r.2.mem ((c.tc : Thread Cert.ConvReferenceIdeal.nD Cert.ConvReferenceIdeal.τ).loc Cert.ConvReferenceIdeal.main_arg7) = m' ((c.tc : Thread Cert.ConvReferenceIdeal.nD Cert.ConvReferenceIdeal.τ).loc Cert.ConvReferenceIdeal.main_arg7)
          ∧ r.2.mem ((c.tc : Thread Cert.ConvReferenceIdeal.nD Cert.ConvReferenceIdeal.τ).loc Cert.ConvReferenceIdeal.main_arg8) = m' ((c.tc : Thread Cert.ConvReferenceIdeal.nD Cert.ConvReferenceIdeal.τ).loc Cert.ConvReferenceIdeal.main_arg8)
          ∧ r.2.mem ((c.tc : Thread Cert.ConvReferenceIdeal.nD Cert.ConvReferenceIdeal.τ).loc Cert.ConvReferenceIdeal.main_arg9) = m' ((c.tc : Thread Cert.ConvReferenceIdeal.nD Cert.ConvReferenceIdeal.τ).loc Cert.ConvReferenceIdeal.main_arg9))

def Claim : Prop :=
  ∃ (hKernel : Cert.Kernel.Facts) (hKernelIdeal : Cert.KernelIdeal.Facts) (hMlpLast : Cert.MlpLast.Facts) (hMlpLastIdeal : Cert.MlpLastIdeal.Facts) (hMlpLastReferenceIdeal : Cert.MlpLastReferenceIdeal.Facts) (hMlpFirst : Cert.MlpFirst.Facts) (hMlpFirstIdeal : Cert.MlpFirstIdeal.Facts) (hMlpFirstReferenceIdeal : Cert.MlpFirstReferenceIdeal.Facts) (hConv : Cert.Conv.Facts) (hConvIdeal : Cert.ConvIdeal.Facts) (hConvReferenceIdeal : Cert.ConvReferenceIdeal.Facts),
    quiescent_Kernel (hKernel := hKernel)
    ∧ quiescent_KernelIdeal (hKernelIdeal := hKernelIdeal)
    ∧ quiescent_MlpLast (hMlpLast := hMlpLast)
    ∧ quiescent_MlpLastIdeal (hMlpLastIdeal := hMlpLastIdeal)
    ∧ quiescent_MlpLastReferenceIdeal (hMlpLastReferenceIdeal := hMlpLastReferenceIdeal)
    ∧ quiescent_MlpFirst (hMlpFirst := hMlpFirst)
    ∧ quiescent_MlpFirstIdeal (hMlpFirstIdeal := hMlpFirstIdeal)
    ∧ quiescent_MlpFirstReferenceIdeal (hMlpFirstReferenceIdeal := hMlpFirstReferenceIdeal)
    ∧ quiescent_Conv (hConv := hConv)
    ∧ quiescent_ConvIdeal (hConvIdeal := hConvIdeal)
    ∧ quiescent_ConvReferenceIdeal (hConvReferenceIdeal := hConvReferenceIdeal)
    ∧ preserves_Kernel_KernelIdeal
    ∧ preserves_MlpLast_MlpLastIdeal
    ∧ algebraic_MlpLastIdeal_MlpLastReferenceIdeal (hMlpLastIdeal := hMlpLastIdeal) (hMlpLastReferenceIdeal := hMlpLastReferenceIdeal)
    ∧ preserves_MlpFirst_MlpFirstIdeal
    ∧ algebraic_MlpFirstIdeal_MlpFirstReferenceIdeal (hMlpFirstIdeal := hMlpFirstIdeal) (hMlpFirstReferenceIdeal := hMlpFirstReferenceIdeal)
    ∧ preserves_Conv_ConvIdeal
    ∧ algebraic_ConvIdeal_ConvReferenceIdeal (hConvIdeal := hConvIdeal) (hConvReferenceIdeal := hConvReferenceIdeal)
-- ==== Kernel.lean ====
abbrev S8x2048x4x4x128 : Shape := ⟨5, ![8, 2048, 4, 4, 128]⟩
abbrev S8x2048x4x128 : Shape := ⟨4, ![8, 2048, 4, 128]⟩
abbrev S8x128x16x2048 : Shape := ⟨4, ![8, 128, 16, 2048]⟩
abbrev S8x16x128x2048 : Shape := ⟨4, ![8, 16, 128, 2048]⟩
abbrev S16384x2048 : Shape := ⟨2, ![16384, 2048]⟩
abbrev S8x128x16x512 : Shape := ⟨4, ![8, 128, 16, 512]⟩
abbrev S8x16x128x512 : Shape := ⟨4, ![8, 16, 128, 512]⟩
abbrev S16384x512 : Shape := ⟨2, ![16384, 512]⟩
abbrev S16384x1024 : Shape := ⟨2, ![16384, 1024]⟩
abbrev S8x2048x2048 : Shape := ⟨3, ![8, 2048, 2048]⟩
abbrev S8x2048x1024 : Shape := ⟨3, ![8, 2048, 1024]⟩
abbrev S1x2048x512 : Shape := ⟨3, ![1, 2048, 512]⟩
abbrev S1x2048x128 : Shape := ⟨3, ![1, 2048, 128]⟩
abbrev S4x2048x128 : Shape := ⟨3, ![4, 2048, 128]⟩
abbrev S512x128 : Shape := ⟨2, ![512, 128]⟩
abbrev S5x256x128 : Shape := ⟨3, ![5, 256, 128]⟩
abbrev S256x128 : Shape := ⟨2, ![256, 128]⟩
abbrev S1x256x128 : Shape := ⟨3, ![1, 256, 128]⟩
abbrev S128x128 : Shape := ⟨2, ![128, 128]⟩
abbrev S1x128x128 : Shape := ⟨3, ![1, 128, 128]⟩
abbrev S1x16x128 : Shape := ⟨3, ![1, 16, 128]⟩
abbrev S16x128 : Shape := ⟨2, ![16, 128]⟩
abbrev S1x8x128 : Shape := ⟨3, ![1, 8, 128]⟩
abbrev S8x128 : Shape := ⟨2, ![8, 128]⟩
abbrev S512x256 : Shape := ⟨2, ![512, 256]⟩
abbrev S256x256 : Shape := ⟨2, ![256, 256]⟩
abbrev S512 : Shape := ⟨1, ![512]⟩
abbrev S512x1 : Shape := ⟨2, ![512, 1]⟩
abbrev S1x64x128 : Shape := ⟨3, ![1, 64, 128]⟩
abbrev S64x128 : Shape := ⟨2, ![64, 128]⟩
abbrev S1x32x128 : Shape := ⟨3, ![1, 32, 128]⟩
abbrev S32x128 : Shape := ⟨2, ![32, 128]⟩
abbrev S128x256 : Shape := ⟨2, ![128, 256]⟩

abbrev nBuf : Space → Nat
  | .hbm => 20
  | .vmem => 13
  | .smem => 0
  | _ => 0

abbrev bufTy : (tb : Table) → Fin (tcTables nBuf tb) → BufTy
  | .hbm, ⟨0, _⟩ => ⟨S8x2048x4x4x128, .f32⟩
  | .hbm, ⟨1, _⟩ => ⟨S8x2048x4x128, .f32⟩
  | .hbm, ⟨2, _⟩ => ⟨S8x2048x4x128, .f32⟩
  | .hbm, ⟨3, _⟩ => ⟨S8x128x16x2048, .f32⟩
  | .hbm, ⟨4, _⟩ => ⟨S8x16x128x2048, .f32⟩
  | .hbm, ⟨5, _⟩ => ⟨S16384x2048, .f32⟩
  | .hbm, ⟨6, _⟩ => ⟨S8x128x16x512, .f32⟩
  | .hbm, ⟨7, _⟩ => ⟨S8x16x128x512, .f32⟩
  | .hbm, ⟨8, _⟩ => ⟨S16384x512, .f32⟩
  | .hbm, ⟨9, _⟩ => ⟨S8x128x16x512, .f32⟩
  | .hbm, ⟨10, _⟩ => ⟨S8x16x128x512, .f32⟩
  | .hbm, ⟨11, _⟩ => ⟨S16384x512, .f32⟩
  | .hbm, ⟨12, _⟩ => ⟨S16384x1024, .f32⟩
  | .hbm, ⟨13, _⟩ => ⟨S8x2048x2048, .f32⟩
  | .hbm, ⟨14, _⟩ => ⟨S8x2048x1024, .f32⟩
  | .hbm, ⟨15, _⟩ => ⟨S8x2048x2048, .bf16⟩
  | .hbm, ⟨16, _⟩ => ⟨S16384x2048, .bf16⟩
  | .hbm, ⟨17, _⟩ => ⟨S8x16x128x2048, .bf16⟩
  | .hbm, ⟨18, _⟩ => ⟨S8x128x16x2048, .bf16⟩
  | .hbm, ⟨19, _⟩ => ⟨S8x2048x4x4x128, .bf16⟩
  | .local _ .vmem, ⟨0, _⟩ => ⟨S1x2048x512, .f32⟩
  | .local _ .vmem, ⟨1, _⟩ => ⟨S1x2048x512, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x512, .bf16⟩
  | .local _ .vmem, ⟨7, _⟩ => ⟨S1x2048x512, .bf16⟩
  | .local _ .vmem, ⟨8, _⟩ => ⟨S4x2048x128, .f32⟩
  | .local _ .vmem, ⟨9, _⟩ => ⟨S4x2048x128, .f32⟩
  | .local _ .vmem, ⟨10, _⟩ => ⟨S4x2048x128, .f32⟩
  | .local _ .vmem, ⟨11, _⟩ => ⟨S512x128, .bf16⟩
  | .local _ .vmem, ⟨12, _⟩ => ⟨S5x256x128, .bf16⟩
  | _, _ => ⟨S8x2048x4x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32_51 : BitVec 32 := 0#32
  let c16_i32_52 : BitVec 32 := 16#32
  let v157 : BitVec 32 := Scalar.addi c0_i32_51 c16_i32_52
  let c1_i32_53 : BitVec 32 := 1#32
  ⟨c0_i32_51, v157, c1_i32_53⟩
def k0_mult1 (k0_t1 : Fin k0_t1_loop.trips) : BitVec 32 :=
  let c0_i32_51 : BitVec 32 := 0#32
  let c1_i32_53 : BitVec 32 := 1#32
  let arg11 : BitVec 32 := Scf.iv c0_i32_51 c1_i32_53 k0_t1
  let c8_i32 : BitVec 32 := 8#32
  let v160 : BitVec 32 := Scalar.muli arg11 c8_i32
  v160
def k0_mult2 (k0_t1 : Fin k0_t1_loop.trips) : BitVec 32 :=
  let c0_i32_51 : BitVec 32 := 0#32
  let c1_i32_53 : BitVec 32 := 1#32
  let arg11 : BitVec 32 := Scf.iv c0_i32_51 c1_i32_53 k0_t1
  let c1_i32_63 : BitVec 32 := 1#32
  let v162 : BitVec 32 := Scalar.subi arg11 c1_i32_63
  let c0_i32_64 : BitVec 32 := 0#32
  let v163 : BitVec 32 := Scalar.maxsi v162 c0_i32_64
  let c8_i32_65 : BitVec 32 := 8#32
  let v164 : BitVec 32 := Scalar.muli v163 c8_i32_65
  v164
def k0_off1 (k0_t1 : Fin k0_t1_loop.trips) : Fin 3 → Nat :=
  let c0_i32_51 : BitVec 32 := 0#32
  let c1_i32_53 : BitVec 32 := 1#32
  let arg11 : BitVec 32 := Scf.iv c0_i32_51 c1_i32_53 k0_t1
  let c0_i32_84 : BitVec 32 := 0#32
  let v198 : BitVec 1 := Scalar.cmpi .sgt arg11 c0_i32_84
  let c0_i32_85 : BitVec 32 := 0#32
  let c1_i32_86 : BitVec 32 := 1#32
  let v199 : BitVec 32 := Scalar.select v198 c0_i32_85 c1_i32_86
  let v200 : Index := Scalar.indexCast v199
  let c0_87 : Index := 0#32
  let c0_88 : Index := 0#32
  ![v200.toNat, 0, 0]
def k0_off2 (k0_t1 : Fin k0_t1_loop.trips) (c0_i32_68 : BitVec 32) : Fin 3 → Nat :=
  let c0_89 : Index := 0#32
  let c0_i32_51 : BitVec 32 := 0#32
  let c1_i32_53 : BitVec 32 := 1#32
  let arg11 : BitVec 32 := Scf.iv c0_i32_51 c1_i32_53 k0_t1
  let c1_i32_63 : BitVec 32 := 1#32
  let v162 : BitVec 32 := Scalar.subi arg11 c1_i32_63
  let c0_i32_64 : BitVec 32 := 0#32
  let v163 : BitVec 32 := Scalar.maxsi v162 c0_i32_64
  let c8_i32_65 : BitVec 32 := 8#32
  let v164 : BitVec 32 := Scalar.muli v163 c8_i32_65
  let v165 : BitVec 32 := v164
  let v182 : BitVec 32 := Scalar.addi c0_i32_68 v165
  let v203 : Index := Scalar.indexCast v182
  let c0_90 : Index := 0#32
  ![0, v203.toNat, 0]
def k0_off3 (k0_t1 : Fin k0_t1_loop.trips) (c0_i32_66 : BitVec 32) : Fin 3 → Nat :=
  let c0_153 : Index := 0#32
  let c0_i32_51 : BitVec 32 := 0#32
  let c1_i32_53 : BitVec 32 := 1#32
  let arg11 : BitVec 32 := Scf.iv c0_i32_51 c1_i32_53 k0_t1
  let c8_i32 : BitVec 32 := 8#32
  let v160 : BitVec 32 := Scalar.muli arg11 c8_i32
  let v161 : BitVec 32 := v160
  let v166 : BitVec 32 := Scalar.addi c0_i32_66 v161
  let v303 : Index := Scalar.indexCast v166
  let c0_154 : Index := 0#32
  ![0, v303.toNat, 0]
def k0_off4 (k0_t1 : Fin k0_t1_loop.trips) (c0_i32_66 : BitVec 32) : Fin 3 → Nat :=
  let c0_185 : Index := 0#32
  let c0_i32_51 : BitVec 32 := 0#32
  let c1_i32_53 : BitVec 32 := 1#32
  let arg11 : BitVec 32 := Scf.iv c0_i32_51 c1_i32_53 k0_t1
  let c8_i32 : BitVec 32 := 8#32
  let v160 : BitVec 32 := Scalar.muli arg11 c8_i32
  let v161 : BitVec 32 := v160
  let v166 : BitVec 32 := Scalar.addi c0_i32_66 v161
  let v352 : Index := Scalar.indexCast v166
  let c128 : Index := 128#32
  ![0, v352.toNat, 128]
def k0_off5 (k0_t1 : Fin k0_t1_loop.trips) (c0_i32_66 : BitVec 32) : Fin 3 → Nat :=
  let c0_216 : Index := 0#32
  let c0_i32_51 : BitVec 32 := 0#32
  let c1_i32_53 : BitVec 32 := 1#32
  let arg11 : BitVec 32 := Scf.iv c0_i32_51 c1_i32_53 k0_t1
  let c8_i32 : BitVec 32 := 8#32
  let v160 : BitVec 32 := Scalar.muli arg11 c8_i32
  let v161 : BitVec 32 := v160
  let v166 : BitVec 32 := Scalar.addi c0_i32_66 v161
  let v401 : Index := Scalar.indexCast v166
  let c256 : Index := 256#32
  ![0, v401.toNat, 256]
def k0_off6 (k0_t1 : Fin k0_t1_loop.trips) (c0_i32_66 : BitVec 32) : Fin 3 → Nat :=
  let c0_247 : Index := 0#32
  let c0_i32_51 : BitVec 32 := 0#32
  let c1_i32_53 : BitVec 32 := 1#32
  let arg11 : BitVec 32 := Scf.iv c0_i32_51 c1_i32_53 k0_t1
  let c8_i32 : BitVec 32 := 8#32
  let v160 : BitVec 32 := Scalar.muli arg11 c8_i32
  let v161 : BitVec 32 := v160
  let v166 : BitVec 32 := Scalar.addi c0_i32_66 v161
  let v450 : Index := Scalar.indexCast v166
  let c384 : Index := 384#32
  ![0, v450.toNat, 384]
def k0_off7 (k0_t1 : Fin k0_t1_loop.trips) (c0_i32_66 : BitVec 32) : Fin 3 → Nat :=
  let c0_285 : Index := 0#32
  let c0_i32_51 : BitVec 32 := 0#32
  let c1_i32_53 : BitVec 32 := 1#32
  let arg11 : BitVec 32 := Scf.iv c0_i32_51 c1_i32_53 k0_t1
  let c8_i32 : BitVec 32 := 8#32
  let v160 : BitVec 32 := Scalar.muli arg11 c8_i32
  let v161 : BitVec 32 := v160
  let v166 : BitVec 32 := Scalar.addi c0_i32_66 v161
  let v521 : Index := Scalar.indexCast v166
  let c0_286 : Index := 0#32
  ![0, v521.toNat, 0]
def k0_off8 (k0_t1 : Fin k0_t1_loop.trips) (c0_i32_66 : BitVec 32) : Fin 3 → Nat :=
  let c1_381 : Index := 1#32
  let c0_i32_51 : BitVec 32 := 0#32
  let c1_i32_53 : BitVec 32 := 1#32
  let arg11 : BitVec 32 := Scf.iv c0_i32_51 c1_i32_53 k0_t1
  let c8_i32 : BitVec 32 := 8#32
  let v160 : BitVec 32 := Scalar.muli arg11 c8_i32
  let v161 : BitVec 32 := v160
  let v166 : BitVec 32 := Scalar.addi c0_i32_66 v161
  let v761 : Index := Scalar.indexCast v166
  let c0_382 : Index := 0#32
  ![1, v761.toNat, 0]
def k0_off9 (k0_t1 : Fin k0_t1_loop.trips) (c0_i32_66 : BitVec 32) : Fin 3 → Nat :=
  let c2_477 : Index := 2#32
  let c0_i32_51 : BitVec 32 := 0#32
  let c1_i32_53 : BitVec 32 := 1#32
  let arg11 : BitVec 32 := Scf.iv c0_i32_51 c1_i32_53 k0_t1
  let c8_i32 : BitVec 32 := 8#32
  let v160 : BitVec 32 := Scalar.muli arg11 c8_i32
  let v161 : BitVec 32 := v160
  let v166 : BitVec 32 := Scalar.addi c0_i32_66 v161
  let v1001 : Index := Scalar.indexCast v166
  let c0_478 : Index := 0#32
  ![2, v1001.toNat, 0]
def k0_off10 (k0_t1 : Fin k0_t1_loop.trips) (c0_i32_66 : BitVec 32) : Fin 3 → Nat :=
  let c3_573 : Index := 3#32
  let c0_i32_51 : BitVec 32 := 0#32
  let c1_i32_53 : BitVec 32 := 1#32
  let arg11 : BitVec 32 := Scf.iv c0_i32_51 c1_i32_53 k0_t1
  let c8_i32 : BitVec 32 := 8#32
  let v160 : BitVec 32 := Scalar.muli arg11 c8_i32
  let v161 : BitVec 32 := v160
  let v166 : BitVec 32 := Scalar.addi c0_i32_66 v161
  let v1241 : Index := Scalar.indexCast v166
  let c0_574 : Index := 0#32
  ![3, v1241.toNat, 0]
@[reducible] def k0_t2_loop : Scf.Loop 32 :=
  let c0_i32_55 : BitVec 32 := 0#32
  let c16_i32_56 : BitVec 32 := 16#32
  let v158 : BitVec 32 := Scalar.addi c0_i32_55 c16_i32_56
  let c1_i32_57 : BitVec 32 := 1#32
  ⟨c0_i32_55, v158, c1_i32_57⟩
def k0_mult3 (k0_t2 : Fin k0_t2_loop.trips) : BitVec 32 :=
  let c0_i32_55 : BitVec 32 := 0#32
  let c1_i32_57 : BitVec 32 := 1#32
  let arg11 : BitVec 32 := Scf.iv c0_i32_55 c1_i32_57 k0_t2
  let c4_i32_70 : BitVec 32 := 4#32
  let c0_i32_71 : BitVec 32 := 0#32
  let v177 : BitVec 1 := Scalar.cmpi .eq c4_i32_70 c0_i32_71
  let c1_i32_72 : BitVec 32 := 1#32
  let v178 : BitVec 32 := Scalar.select v177 c1_i32_72 c4_i32_70
  let v179 : BitVec 32 := Scalar.remsi arg11 v178
  let c0_i32_74 : BitVec 32 := 0#32
  let v181 : BitVec 1 := Scalar.cmpi .slt v179 c0_i32_74
  let c0_i32_75 : BitVec 32 := 0#32
  let v182 : BitVec 1 := Scalar.cmpi .slt v178 c0_i32_75
  let v183 : BitVec 1 := Scalar.xori v181 v182
  let c0_i32_73 : BitVec 32 := 0#32
  let v180 : BitVec 1 := Scalar.cmpi .ne v179 c0_i32_73
  let v184 : BitVec 1 := Scalar.andi v183 v180
  let v185 : BitVec 32 := Scalar.addi v179 v178
  let v186 : BitVec 32 := Scalar.select v184 v185 v179
  let c32_i32 : BitVec 32 := 32#32
  let v187 : BitVec 32 := Scalar.muli v186 c32_i32
  v187
def k0_mult4 (k0_t2 : Fin k0_t2_loop.trips) : BitVec 32 :=
  let c0_i32_55 : BitVec 32 := 0#32
  let c1_i32_57 : BitVec 32 := 1#32
  let arg11 : BitVec 32 := Scf.iv c0_i32_55 c1_i32_57 k0_t2
  let c4_i32_70 : BitVec 32 := 4#32
  let c0_i32_71 : BitVec 32 := 0#32
  let v177 : BitVec 1 := Scalar.cmpi .eq c4_i32_70 c0_i32_71
  let c1_i32_72 : BitVec 32 := 1#32
  let v178 : BitVec 32 := Scalar.select v177 c1_i32_72 c4_i32_70
  let v179 : BitVec 32 := Scalar.remsi arg11 v178
  let c0_i32_74 : BitVec 32 := 0#32
  let v181 : BitVec 1 := Scalar.cmpi .slt v179 c0_i32_74
  let c0_i32_75 : BitVec 32 := 0#32
  let v182 : BitVec 1 := Scalar.cmpi .slt v178 c0_i32_75
  let v183 : BitVec 1 := Scalar.xori v181 v182
  let c0_i32_73 : BitVec 32 := 0#32
  let v180 : BitVec 1 := Scalar.cmpi .ne v179 c0_i32_73
  let v184 : BitVec 1 := Scalar.andi v183 v180
  let v185 : BitVec 32 := Scalar.addi v179 v178
  let v186 : BitVec 32 := Scalar.select v184 v185 v179
  let c1_i32_76 : BitVec 32 := 1#32
  let v189 : BitVec 32 := Scalar.subi v186 c1_i32_76
  let c0_i32_77 : BitVec 32 := 0#32
  let v190 : BitVec 32 := Scalar.maxsi v189 c0_i32_77
  let c32_i32_78 : BitVec 32 := 32#32
  let v191 : BitVec 32 := Scalar.muli v190 c32_i32_78
  v191
def k0_off11 (k0_t2 : Fin k0_t2_loop.trips) : Fin 3 → Nat :=
  let c0_i32_55 : BitVec 32 := 0#32
  let c1_i32_57 : BitVec 32 := 1#32
  let arg11 : BitVec 32 := Scf.iv c0_i32_55 c1_i32_57 k0_t2
  let c4_i32_70 : BitVec 32 := 4#32
  let c0_i32_71 : BitVec 32 := 0#32
  let v177 : BitVec 1 := Scalar.cmpi .eq c4_i32_70 c0_i32_71
  let c1_i32_72 : BitVec 32 := 1#32
  let v178 : BitVec 32 := Scalar.select v177 c1_i32_72 c4_i32_70
  let v179 : BitVec 32 := Scalar.remsi arg11 v178
  let c0_i32_74 : BitVec 32 := 0#32
  let v181 : BitVec 1 := Scalar.cmpi .slt v179 c0_i32_74
  let c0_i32_75 : BitVec 32 := 0#32
  let v182 : BitVec 1 := Scalar.cmpi .slt v178 c0_i32_75
  let v183 : BitVec 1 := Scalar.xori v181 v182
  let c0_i32_73 : BitVec 32 := 0#32
  let v180 : BitVec 1 := Scalar.cmpi .ne v179 c0_i32_73
  let v184 : BitVec 1 := Scalar.andi v183 v180
  let v185 : BitVec 32 := Scalar.addi v179 v178
  let v186 : BitVec 32 := Scalar.select v184 v185 v179
  let c0_i32_93 : BitVec 32 := 0#32
  let v217 : BitVec 1 := Scalar.cmpi .sgt v186 c0_i32_93
  let c2_i32 : BitVec 32 := 2#32
  let c3_i32_94 : BitVec 32 := 3#32
  let v218 : BitVec 32 := Scalar.select v217 c2_i32 c3_i32_94
  let v219 : Index := Scalar.indexCast v218
  let c0_95 : Index := 0#32
  let c0_96 : Index := 0#32
  ![v219.toNat, 0, 0]
def k0_off12 (k0_t2 : Fin k0_t2_loop.trips) (c0_i32_85 : BitVec 32) : Fin 3 → Nat :=
  let c0_97 : Index := 0#32
  let c0_i32_55 : BitVec 32 := 0#32
  let c1_i32_57 : BitVec 32 := 1#32
  let arg11 : BitVec 32 := Scf.iv c0_i32_55 c1_i32_57 k0_t2
  let c0_i32_64 : BitVec 32 := 0#32
  let v161 : BitVec 1 := Scalar.cmpi .sgt arg11 c0_i32_64
  let v162 : BitVec 32 := Scalar.extui v161
  let c0_i32_65 : BitVec 32 := 0#32
  let v163 : BitVec 1 := Scalar.cmpi .slt arg11 c0_i32_65
  let v164 : BitVec 32 := Scalar.extui v163
  let v165 : BitVec 32 := Scalar.subi v162 v164
  let c4_i32_63 : BitVec 32 := 4#32
  let c0_i32_66 : BitVec 32 := 0#32
  let v166 : BitVec 1 := Scalar.cmpi .sgt c4_i32_63 c0_i32_66
  let v167 : BitVec 32 := Scalar.extui v166
  let c0_i32_67 : BitVec 32 := 0#32
  let v168 : BitVec 1 := Scalar.cmpi .slt c4_i32_63 c0_i32_67
  let v169 : BitVec 32 := Scalar.extui v168
  let v170 : BitVec 32 := Scalar.subi v167 v169
  let v171 : BitVec 1 := Scalar.cmpi .ne v165 v170
  let v172 : BitVec 32 := Scalar.remsi arg11 c4_i32_63
  let c0_i32_68 : BitVec 32 := 0#32
  let v173 : BitVec 1 := Scalar.cmpi .ne v172 c0_i32_68
  let v174 : BitVec 1 := Scalar.andi v171 v173
  let v160 : BitVec 32 := Scalar.divsi arg11 c4_i32_63
  let c1_i32_69 : BitVec 32 := 1#32
  let v175 : BitVec 32 := Scalar.subi v160 c1_i32_69
  let v176 : BitVec 32 := Scalar.select v174 v175 v160
  let v205 : BitVec 32 := Scalar.addi v176 c0_i32_85
  let c128_i32_86 : BitVec 32 := 128#32
  let v206 : BitVec 32 := Scalar.muli v205 c128_i32_86
  let c4_i32_70 : BitVec 32 := 4#32
  let c0_i32_71 : BitVec 32 := 0#32
  let v177 : BitVec 1 := Scalar.cmpi .eq c4_i32_70 c0_i32_71
  let c1_i32_72 : BitVec 32 := 1#32
  let v178 : BitVec 32 := Scalar.select v177 c1_i32_72 c4_i32_70
  let v179 : BitVec 32 := Scalar.remsi arg11 v178
  let c0_i32_74 : BitVec 32 := 0#32
  let v181 : BitVec 1 := Scalar.cmpi .slt v179 c0_i32_74
  let c0_i32_75 : BitVec 32 := 0#32
  let v182 : BitVec 1 := Scalar.cmpi .slt v178 c0_i32_75
  let v183 : BitVec 1 := Scalar.xori v181 v182
  let c0_i32_73 : BitVec 32 := 0#32
  let v180 : BitVec 1 := Scalar.cmpi .ne v179 c0_i32_73
  let v184 : BitVec 1 := Scalar.andi v183 v180
  let v185 : BitVec 32 := Scalar.addi v179 v178
  let v186 : BitVec 32 := Scalar.select v184 v185 v179
  let c1_i32_76 : BitVec 32 := 1#32
  let v189 : BitVec 32 := Scalar.subi v186 c1_i32_76
  let c0_i32_77 : BitVec 32 := 0#32
  let v190 : BitVec 32 := Scalar.maxsi v189 c0_i32_77
  let c32_i32_78 : BitVec 32 := 32#32
  let v191 : BitVec 32 := Scalar.muli v190 c32_i32_78
  let v192 : BitVec 32 := v191
  let v207 : BitVec 32 := Scalar.addi v206 v192
  let v222 : Index := Scalar.indexCast v207
  let c0_98 : Index := 0#32
  ![0, v222.toNat, 0]
def k0_off13 (k0_t2 : Fin k0_t2_loop.trips) (c0_i32_79 : BitVec 32) : Fin 3 → Nat :=
  let c0_113 : Index := 0#32
  let c0_i32_55 : BitVec 32 := 0#32
  let c1_i32_57 : BitVec 32 := 1#32
  let arg11 : BitVec 32 := Scf.iv c0_i32_55 c1_i32_57 k0_t2
  let c0_i32_64 : BitVec 32 := 0#32
  let v161 : BitVec 1 := Scalar.cmpi .sgt arg11 c0_i32_64
  let v162 : BitVec 32 := Scalar.extui v161
  let c0_i32_65 : BitVec 32 := 0#32
  let v163 : BitVec 1 := Scalar.cmpi .slt arg11 c0_i32_65
  let v164 : BitVec 32 := Scalar.extui v163
  let v165 : BitVec 32 := Scalar.subi v162 v164
  let c4_i32_63 : BitVec 32 := 4#32
  let c0_i32_66 : BitVec 32 := 0#32
  let v166 : BitVec 1 := Scalar.cmpi .sgt c4_i32_63 c0_i32_66
  let v167 : BitVec 32 := Scalar.extui v166
  let c0_i32_67 : BitVec 32 := 0#32
  let v168 : BitVec 1 := Scalar.cmpi .slt c4_i32_63 c0_i32_67
  let v169 : BitVec 32 := Scalar.extui v168
  let v170 : BitVec 32 := Scalar.subi v167 v169
  let v171 : BitVec 1 := Scalar.cmpi .ne v165 v170
  let v172 : BitVec 32 := Scalar.remsi arg11 c4_i32_63
  let c0_i32_68 : BitVec 32 := 0#32
  let v173 : BitVec 1 := Scalar.cmpi .ne v172 c0_i32_68
  let v174 : BitVec 1 := Scalar.andi v171 v173
  let v160 : BitVec 32 := Scalar.divsi arg11 c4_i32_63
  let c1_i32_69 : BitVec 32 := 1#32
  let v175 : BitVec 32 := Scalar.subi v160 c1_i32_69
  let v176 : BitVec 32 := Scalar.select v174 v175 v160
  let v193 : BitVec 32 := Scalar.addi v176 c0_i32_79
  let c128_i32_80 : BitVec 32 := 128#32
  let v194 : BitVec 32 := Scalar.muli v193 c128_i32_80
  let c4_i32_70 : BitVec 32 := 4#32
  let c0_i32_71 : BitVec 32 := 0#32
  let v177 : BitVec 1 := Scalar.cmpi .eq c4_i32_70 c0_i32_71
  let c1_i32_72 : BitVec 32 := 1#32
  let v178 : BitVec 32 := Scalar.select v177 c1_i32_72 c4_i32_70
  let v179 : BitVec 32 := Scalar.remsi arg11 v178
  let c0_i32_74 : BitVec 32 := 0#32
  let v181 : BitVec 1 := Scalar.cmpi .slt v179 c0_i32_74
  let c0_i32_75 : BitVec 32 := 0#32
  let v182 : BitVec 1 := Scalar.cmpi .slt v178 c0_i32_75
  let v183 : BitVec 1 := Scalar.xori v181 v182
  let c0_i32_73 : BitVec 32 := 0#32
  let v180 : BitVec 1 := Scalar.cmpi .ne v179 c0_i32_73
  let v184 : BitVec 1 := Scalar.andi v183 v180
  let v185 : BitVec 32 := Scalar.addi v179 v178
  let v186 : BitVec 32 := Scalar.select v184 v185 v179
  let c32_i32 : BitVec 32 := 32#32
  let v187 : BitVec 32 := Scalar.muli v186 c32_i32
  let v188 : BitVec 32 := v187
  let v195 : BitVec 32 := Scalar.addi v194 v188
  let v250 : Index := Scalar.indexCast v195
  let c0_114 : Index := 0#32
  ![0, v250.toNat, 0]
def k0_off14 (k0_t2 : Fin k0_t2_loop.trips) (c0_i32_79 : BitVec 32) : Fin 3 → Nat :=
  let c0_121 : Index := 0#32
  let c0_i32_55 : BitVec 32 := 0#32
  let c1_i32_57 : BitVec 32 := 1#32
  let arg11 : BitVec 32 := Scf.iv c0_i32_55 c1_i32_57 k0_t2
  let c0_i32_64 : BitVec 32 := 0#32
  let v161 : BitVec 1 := Scalar.cmpi .sgt arg11 c0_i32_64
  let v162 : BitVec 32 := Scalar.extui v161
  let c0_i32_65 : BitVec 32 := 0#32
  let v163 : BitVec 1 := Scalar.cmpi .slt arg11 c0_i32_65
  let v164 : BitVec 32 := Scalar.extui v163
  let v165 : BitVec 32 := Scalar.subi v162 v164
  let c4_i32_63 : BitVec 32 := 4#32
  let c0_i32_66 : BitVec 32 := 0#32
  let v166 : BitVec 1 := Scalar.cmpi .sgt c4_i32_63 c0_i32_66
  let v167 : BitVec 32 := Scalar.extui v166
  let c0_i32_67 : BitVec 32 := 0#32
  let v168 : BitVec 1 := Scalar.cmpi .slt c4_i32_63 c0_i32_67
  let v169 : BitVec 32 := Scalar.extui v168
  let v170 : BitVec 32 := Scalar.subi v167 v169
  let v171 : BitVec 1 := Scalar.cmpi .ne v165 v170
  let v172 : BitVec 32 := Scalar.remsi arg11 c4_i32_63
  let c0_i32_68 : BitVec 32 := 0#32
  let v173 : BitVec 1 := Scalar.cmpi .ne v172 c0_i32_68
  let v174 : BitVec 1 := Scalar.andi v171 v173
  let v160 : BitVec 32 := Scalar.divsi arg11 c4_i32_63
  let c1_i32_69 : BitVec 32 := 1#32
  let v175 : BitVec 32 := Scalar.subi v160 c1_i32_69
  let v176 : BitVec 32 := Scalar.select v174 v175 v160
  let v193 : BitVec 32 := Scalar.addi v176 c0_i32_79
  let c128_i32_80 : BitVec 32 := 128#32
  let v194 : BitVec 32 := Scalar.muli v193 c128_i32_80
  let c4_i32_70 : BitVec 32 := 4#32
  let c0_i32_71 : BitVec 32 := 0#32
  let v177 : BitVec 1 := Scalar.cmpi .eq c4_i32_70 c0_i32_71
  let c1_i32_72 : BitVec 32 := 1#32
  let v178 : BitVec 32 := Scalar.select v177 c1_i32_72 c4_i32_70
  let v179 : BitVec 32 := Scalar.remsi arg11 v178
  let c0_i32_74 : BitVec 32 := 0#32
  let v181 : BitVec 1 := Scalar.cmpi .slt v179 c0_i32_74
  let c0_i32_75 : BitVec 32 := 0#32
  let v182 : BitVec 1 := Scalar.cmpi .slt v178 c0_i32_75
  let v183 : BitVec 1 := Scalar.xori v181 v182
  let c0_i32_73 : BitVec 32 := 0#32
  let v180 : BitVec 1 := Scalar.cmpi .ne v179 c0_i32_73
  let v184 : BitVec 1 := Scalar.andi v183 v180
  let v185 : BitVec 32 := Scalar.addi v179 v178
  let v186 : BitVec 32 := Scalar.select v184 v185 v179
  let c32_i32 : BitVec 32 := 32#32
  let v187 : BitVec 32 := Scalar.muli v186 c32_i32
  let v188 : BitVec 32 := v187
  let v195 : BitVec 32 := Scalar.addi v194 v188
  let v263 : Index := Scalar.indexCast v195
  let c128 : Index := 128#32
  ![0, v263.toNat, 128]
def k0_off15 (k0_t2 : Fin k0_t2_loop.trips) (c0_i32_79 : BitVec 32) : Fin 3 → Nat :=
  let c0_128 : Index := 0#32
  let c0_i32_55 : BitVec 32 := 0#32
  let c1_i32_57 : BitVec 32 := 1#32
  let arg11 : BitVec 32 := Scf.iv c0_i32_55 c1_i32_57 k0_t2
  let c0_i32_64 : BitVec 32 := 0#32
  let v161 : BitVec 1 := Scalar.cmpi .sgt arg11 c0_i32_64
  let v162 : BitVec 32 := Scalar.extui v161
  let c0_i32_65 : BitVec 32 := 0#32
  let v163 : BitVec 1 := Scalar.cmpi .slt arg11 c0_i32_65
  let v164 : BitVec 32 := Scalar.extui v163
  let v165 : BitVec 32 := Scalar.subi v162 v164
  let c4_i32_63 : BitVec 32 := 4#32
  let c0_i32_66 : BitVec 32 := 0#32
  let v166 : BitVec 1 := Scalar.cmpi .sgt c4_i32_63 c0_i32_66
  let v167 : BitVec 32 := Scalar.extui v166
  let c0_i32_67 : BitVec 32 := 0#32
  let v168 : BitVec 1 := Scalar.cmpi .slt c4_i32_63 c0_i32_67
  let v169 : BitVec 32 := Scalar.extui v168
  let v170 : BitVec 32 := Scalar.subi v167 v169
  let v171 : BitVec 1 := Scalar.cmpi .ne v165 v170
  let v172 : BitVec 32 := Scalar.remsi arg11 c4_i32_63
  let c0_i32_68 : BitVec 32 := 0#32
  let v173 : BitVec 1 := Scalar.cmpi .ne v172 c0_i32_68
  let v174 : BitVec 1 := Scalar.andi v171 v173
  let v160 : BitVec 32 := Scalar.divsi arg11 c4_i32_63
  let c1_i32_69 : BitVec 32 := 1#32
  let v175 : BitVec 32 := Scalar.subi v160 c1_i32_69
  let v176 : BitVec 32 := Scalar.select v174 v175 v160
  let v193 : BitVec 32 := Scalar.addi v176 c0_i32_79
  let c128_i32_80 : BitVec 32 := 128#32
  let v194 : BitVec 32 := Scalar.muli v193 c128_i32_80
  let c4_i32_70 : BitVec 32 := 4#32
  let c0_i32_71 : BitVec 32 := 0#32
  let v177 : BitVec 1 := Scalar.cmpi .eq c4_i32_70 c0_i32_71
  let c1_i32_72 : BitVec 32 := 1#32
  let v178 : BitVec 32 := Scalar.select v177 c1_i32_72 c4_i32_70
  let v179 : BitVec 32 := Scalar.remsi arg11 v178
  let c0_i32_74 : BitVec 32 := 0#32
  let v181 : BitVec 1 := Scalar.cmpi .slt v179 c0_i32_74
  let c0_i32_75 : BitVec 32 := 0#32
  let v182 : BitVec 1 := Scalar.cmpi .slt v178 c0_i32_75
  let v183 : BitVec 1 := Scalar.xori v181 v182
  let c0_i32_73 : BitVec 32 := 0#32
  let v180 : BitVec 1 := Scalar.cmpi .ne v179 c0_i32_73
  let v184 : BitVec 1 := Scalar.andi v183 v180
  let v185 : BitVec 32 := Scalar.addi v179 v178
  let v186 : BitVec 32 := Scalar.select v184 v185 v179
  let c32_i32 : BitVec 32 := 32#32
  let v187 : BitVec 32 := Scalar.muli v186 c32_i32
  let v188 : BitVec 32 := v187
  let v195 : BitVec 32 := Scalar.addi v194 v188
  let v276 : Index := Scalar.indexCast v195
  let c256 : Index := 256#32
  ![0, v276.toNat, 256]
def k0_off16 (k0_t2 : Fin k0_t2_loop.trips) (c0_i32_79 : BitVec 32) : Fin 3 → Nat :=
  let c0_135 : Index := 0#32
  let c0_i32_55 : BitVec 32 := 0#32
  let c1_i32_57 : BitVec 32 := 1#32
  let arg11 : BitVec 32 := Scf.iv c0_i32_55 c1_i32_57 k0_t2
  let c0_i32_64 : BitVec 32 := 0#32
  let v161 : BitVec 1 := Scalar.cmpi .sgt arg11 c0_i32_64
  let v162 : BitVec 32 := Scalar.extui v161
  let c0_i32_65 : BitVec 32 := 0#32
  let v163 : BitVec 1 := Scalar.cmpi .slt arg11 c0_i32_65
  let v164 : BitVec 32 := Scalar.extui v163
  let v165 : BitVec 32 := Scalar.subi v162 v164
  let c4_i32_63 : BitVec 32 := 4#32
  let c0_i32_66 : BitVec 32 := 0#32
  let v166 : BitVec 1 := Scalar.cmpi .sgt c4_i32_63 c0_i32_66
  let v167 : BitVec 32 := Scalar.extui v166
  let c0_i32_67 : BitVec 32 := 0#32
  let v168 : BitVec 1 := Scalar.cmpi .slt c4_i32_63 c0_i32_67
  let v169 : BitVec 32 := Scalar.extui v168
  let v170 : BitVec 32 := Scalar.subi v167 v169
  let v171 : BitVec 1 := Scalar.cmpi .ne v165 v170
  let v172 : BitVec 32 := Scalar.remsi arg11 c4_i32_63
  let c0_i32_68 : BitVec 32 := 0#32
  let v173 : BitVec 1 := Scalar.cmpi .ne v172 c0_i32_68
  let v174 : BitVec 1 := Scalar.andi v171 v173
  let v160 : BitVec 32 := Scalar.divsi arg11 c4_i32_63
  let c1_i32_69 : BitVec 32 := 1#32
  let v175 : BitVec 32 := Scalar.subi v160 c1_i32_69
  let v176 : BitVec 32 := Scalar.select v174 v175 v160
  let v193 : BitVec 32 := Scalar.addi v176 c0_i32_79
  let c128_i32_80 : BitVec 32 := 128#32
  let v194 : BitVec 32 := Scalar.muli v193 c128_i32_80
  let c4_i32_70 : BitVec 32 := 4#32
  let c0_i32_71 : BitVec 32 := 0#32
  let v177 : BitVec 1 := Scalar.cmpi .eq c4_i32_70 c0_i32_71
  let c1_i32_72 : BitVec 32 := 1#32
  let v178 : BitVec 32 := Scalar.select v177 c1_i32_72 c4_i32_70
  let v179 : BitVec 32 := Scalar.remsi arg11 v178
  let c0_i32_74 : BitVec 32 := 0#32
  let v181 : BitVec 1 := Scalar.cmpi .slt v179 c0_i32_74
  let c0_i32_75 : BitVec 32 := 0#32
  let v182 : BitVec 1 := Scalar.cmpi .slt v178 c0_i32_75
  let v183 : BitVec 1 := Scalar.xori v181 v182
  let c0_i32_73 : BitVec 32 := 0#32
  let v180 : BitVec 1 := Scalar.cmpi .ne v179 c0_i32_73
  let v184 : BitVec 1 := Scalar.andi v183 v180
  let v185 : BitVec 32 := Scalar.addi v179 v178
  let v186 : BitVec 32 := Scalar.select v184 v185 v179
  let c32_i32 : BitVec 32 := 32#32
  let v187 : BitVec 32 := Scalar.muli v186 c32_i32
  let v188 : BitVec 32 := v187
  let v195 : BitVec 32 := Scalar.addi v194 v188
  let v289 : Index := Scalar.indexCast v195
  let c384 : Index := 384#32
  ![0, v289.toNat, 384]
def k0_off17 (k0_t2 : Fin k0_t2_loop.trips) (c0_i32_79 : BitVec 32) : Fin 3 → Nat :=
  let c0_151 : Index := 0#32
  let c0_i32_55 : BitVec 32 := 0#32
  let c1_i32_57 : BitVec 32 := 1#32
  let arg11 : BitVec 32 := Scf.iv c0_i32_55 c1_i32_57 k0_t2
  let c0_i32_64 : BitVec 32 := 0#32
  let v161 : BitVec 1 := Scalar.cmpi .sgt arg11 c0_i32_64
  let v162 : BitVec 32 := Scalar.extui v161
  let c0_i32_65 : BitVec 32 := 0#32
  let v163 : BitVec 1 := Scalar.cmpi .slt arg11 c0_i32_65
  let v164 : BitVec 32 := Scalar.extui v163
  let v165 : BitVec 32 := Scalar.subi v162 v164
  let c4_i32_63 : BitVec 32 := 4#32
  let c0_i32_66 : BitVec 32 := 0#32
  let v166 : BitVec 1 := Scalar.cmpi .sgt c4_i32_63 c0_i32_66
  let v167 : BitVec 32 := Scalar.extui v166
  let c0_i32_67 : BitVec 32 := 0#32
  let v168 : BitVec 1 := Scalar.cmpi .slt c4_i32_63 c0_i32_67
  let v169 : BitVec 32 := Scalar.extui v168
  let v170 : BitVec 32 := Scalar.subi v167 v169
  let v171 : BitVec 1 := Scalar.cmpi .ne v165 v170
  let v172 : BitVec 32 := Scalar.remsi arg11 c4_i32_63
  let c0_i32_68 : BitVec 32 := 0#32
  let v173 : BitVec 1 := Scalar.cmpi .ne v172 c0_i32_68
  let v174 : BitVec 1 := Scalar.andi v171 v173
  let v160 : BitVec 32 := Scalar.divsi arg11 c4_i32_63
  let c1_i32_69 : BitVec 32 := 1#32
  let v175 : BitVec 32 := Scalar.subi v160 c1_i32_69
  let v176 : BitVec 32 := Scalar.select v174 v175 v160
  let v193 : BitVec 32 := Scalar.addi v176 c0_i32_79
  let c128_i32_80 : BitVec 32 := 128#32
  let v194 : BitVec 32 := Scalar.muli v193 c128_i32_80
  let c4_i32_70 : BitVec 32 := 4#32
  let c0_i32_71 : BitVec 32 := 0#32
  let v177 : BitVec 1 := Scalar.cmpi .eq c4_i32_70 c0_i32_71
  let c1_i32_72 : BitVec 32 := 1#32
  let v178 : BitVec 32 := Scalar.select v177 c1_i32_72 c4_i32_70
  let v179 : BitVec 32 := Scalar.remsi arg11 v178
  let c0_i32_74 : BitVec 32 := 0#32
  let v181 : BitVec 1 := Scalar.cmpi .slt v179 c0_i32_74
  let c0_i32_75 : BitVec 32 := 0#32
  let v182 : BitVec 1 := Scalar.cmpi .slt v178 c0_i32_75
  let v183 : BitVec 1 := Scalar.xori v181 v182
  let c0_i32_73 : BitVec 32 := 0#32
  let v180 : BitVec 1 := Scalar.cmpi .ne v179 c0_i32_73
  let v184 : BitVec 1 := Scalar.andi v183 v180
  let v185 : BitVec 32 := Scalar.addi v179 v178
  let v186 : BitVec 32 := Scalar.select v184 v185 v179
  let c32_i32 : BitVec 32 := 32#32
  let v187 : BitVec 32 := Scalar.muli v186 c32_i32
  let v188 : BitVec 32 := v187
  let v195 : BitVec 32 := Scalar.addi v194 v188
  let v317 : Index := Scalar.indexCast v195
  let c0_152 : Index := 0#32
  ![0, v317.toNat, 0]
def k0_off18 (k0_t2 : Fin k0_t2_loop.trips) (c0_i32_79 : BitVec 32) : Fin 3 → Nat :=
  let c0_389 : Index := 0#32
  let c0_i32_55 : BitVec 32 := 0#32
  let c1_i32_57 : BitVec 32 := 1#32
  let arg11 : BitVec 32 := Scf.iv c0_i32_55 c1_i32_57 k0_t2
  let c0_i32_64 : BitVec 32 := 0#32
  let v161 : BitVec 1 := Scalar.cmpi .sgt arg11 c0_i32_64
  let v162 : BitVec 32 := Scalar.extui v161
  let c0_i32_65 : BitVec 32 := 0#32
  let v163 : BitVec 1 := Scalar.cmpi .slt arg11 c0_i32_65
  let v164 : BitVec 32 := Scalar.extui v163
  let v165 : BitVec 32 := Scalar.subi v162 v164
  let c4_i32_63 : BitVec 32 := 4#32
  let c0_i32_66 : BitVec 32 := 0#32
  let v166 : BitVec 1 := Scalar.cmpi .sgt c4_i32_63 c0_i32_66
  let v167 : BitVec 32 := Scalar.extui v166
  let c0_i32_67 : BitVec 32 := 0#32
  let v168 : BitVec 1 := Scalar.cmpi .slt c4_i32_63 c0_i32_67
  let v169 : BitVec 32 := Scalar.extui v168
  let v170 : BitVec 32 := Scalar.subi v167 v169
  let v171 : BitVec 1 := Scalar.cmpi .ne v165 v170
  let v172 : BitVec 32 := Scalar.remsi arg11 c4_i32_63
  let c0_i32_68 : BitVec 32 := 0#32
  let v173 : BitVec 1 := Scalar.cmpi .ne v172 c0_i32_68
  let v174 : BitVec 1 := Scalar.andi v171 v173
  let v160 : BitVec 32 := Scalar.divsi arg11 c4_i32_63
  let c1_i32_69 : BitVec 32 := 1#32
  let v175 : BitVec 32 := Scalar.subi v160 c1_i32_69
  let v176 : BitVec 32 := Scalar.select v174 v175 v160
  let v193 : BitVec 32 := Scalar.addi v176 c0_i32_79
  let c128_i32_80 : BitVec 32 := 128#32
  let v194 : BitVec 32 := Scalar.muli v193 c128_i32_80
  let c4_i32_70 : BitVec 32 := 4#32
  let c0_i32_71 : BitVec 32 := 0#32
  let v177 : BitVec 1 := Scalar.cmpi .eq c4_i32_70 c0_i32_71
  let c1_i32_72 : BitVec 32 := 1#32
  let v178 : BitVec 32 := Scalar.select v177 c1_i32_72 c4_i32_70
  let v179 : BitVec 32 := Scalar.remsi arg11 v178
  let c0_i32_74 : BitVec 32 := 0#32
  let v181 : BitVec 1 := Scalar.cmpi .slt v179 c0_i32_74
  let c0_i32_75 : BitVec 32 := 0#32
  let v182 : BitVec 1 := Scalar.cmpi .slt v178 c0_i32_75
  let v183 : BitVec 1 := Scalar.xori v181 v182
  let c0_i32_73 : BitVec 32 := 0#32
  let v180 : BitVec 1 := Scalar.cmpi .ne v179 c0_i32_73
  let v184 : BitVec 1 := Scalar.andi v183 v180
  let v185 : BitVec 32 := Scalar.addi v179 v178
  let v186 : BitVec 32 := Scalar.select v184 v185 v179
  let c32_i32 : BitVec 32 := 32#32
  let v187 : BitVec 32 := Scalar.muli v186 c32_i32
  let v188 : BitVec 32 := v187
  let v195 : BitVec 32 := Scalar.addi v194 v188
  let v538 : Index := Scalar.indexCast v195
  let c0_390 : Index := 0#32
  ![0, v538.toNat, 0]
def k0_off19 (k0_t2 : Fin k0_t2_loop.trips) (c0_i32_79 : BitVec 32) : Fin 3 → Nat :=
  let c1_413 : Index := 1#32
  let c0_i32_55 : BitVec 32 := 0#32
  let c1_i32_57 : BitVec 32 := 1#32
  let arg11 : BitVec 32 := Scf.iv c0_i32_55 c1_i32_57 k0_t2
  let c0_i32_64 : BitVec 32 := 0#32
  let v161 : BitVec 1 := Scalar.cmpi .sgt arg11 c0_i32_64
  let v162 : BitVec 32 := Scalar.extui v161
  let c0_i32_65 : BitVec 32 := 0#32
  let v163 : BitVec 1 := Scalar.cmpi .slt arg11 c0_i32_65
  let v164 : BitVec 32 := Scalar.extui v163
  let v165 : BitVec 32 := Scalar.subi v162 v164
  let c4_i32_63 : BitVec 32 := 4#32
  let c0_i32_66 : BitVec 32 := 0#32
  let v166 : BitVec 1 := Scalar.cmpi .sgt c4_i32_63 c0_i32_66
  let v167 : BitVec 32 := Scalar.extui v166
  let c0_i32_67 : BitVec 32 := 0#32
  let v168 : BitVec 1 := Scalar.cmpi .slt c4_i32_63 c0_i32_67
  let v169 : BitVec 32 := Scalar.extui v168
  let v170 : BitVec 32 := Scalar.subi v167 v169
  let v171 : BitVec 1 := Scalar.cmpi .ne v165 v170
  let v172 : BitVec 32 := Scalar.remsi arg11 c4_i32_63
  let c0_i32_68 : BitVec 32 := 0#32
  let v173 : BitVec 1 := Scalar.cmpi .ne v172 c0_i32_68
  let v174 : BitVec 1 := Scalar.andi v171 v173
  let v160 : BitVec 32 := Scalar.divsi arg11 c4_i32_63
  let c1_i32_69 : BitVec 32 := 1#32
  let v175 : BitVec 32 := Scalar.subi v160 c1_i32_69
  let v176 : BitVec 32 := Scalar.select v174 v175 v160
  let v193 : BitVec 32 := Scalar.addi v176 c0_i32_79
  let c128_i32_80 : BitVec 32 := 128#32
  let v194 : BitVec 32 := Scalar.muli v193 c128_i32_80
  let c4_i32_70 : BitVec 32 := 4#32
  let c0_i32_71 : BitVec 32 := 0#32
  let v177 : BitVec 1 := Scalar.cmpi .eq c4_i32_70 c0_i32_71
  let c1_i32_72 : BitVec 32 := 1#32
  let v178 : BitVec 32 := Scalar.select v177 c1_i32_72 c4_i32_70
  let v179 : BitVec 32 := Scalar.remsi arg11 v178
  let c0_i32_74 : BitVec 32 := 0#32
  let v181 : BitVec 1 := Scalar.cmpi .slt v179 c0_i32_74
  let c0_i32_75 : BitVec 32 := 0#32
  let v182 : BitVec 1 := Scalar.cmpi .slt v178 c0_i32_75
  let v183 : BitVec 1 := Scalar.xori v181 v182
  let c0_i32_73 : BitVec 32 := 0#32
  let v180 : BitVec 1 := Scalar.cmpi .ne v179 c0_i32_73
  let v184 : BitVec 1 := Scalar.andi v183 v180
  let v185 : BitVec 32 := Scalar.addi v179 v178
  let v186 : BitVec 32 := Scalar.select v184 v185 v179
  let c32_i32 : BitVec 32 := 32#32
  let v187 : BitVec 32 := Scalar.muli v186 c32_i32
  let v188 : BitVec 32 := v187
  let v195 : BitVec 32 := Scalar.addi v194 v188
  let v598 : Index := Scalar.indexCast v195
  let c0_414 : Index := 0#32
  ![1, v598.toNat, 0]
def k0_off20 (k0_t2 : Fin k0_t2_loop.trips) (c0_i32_79 : BitVec 32) : Fin 3 → Nat :=
  let c2_437 : Index := 2#32
  let c0_i32_55 : BitVec 32 := 0#32
  let c1_i32_57 : BitVec 32 := 1#32
  let arg11 : BitVec 32 := Scf.iv c0_i32_55 c1_i32_57 k0_t2
  let c0_i32_64 : BitVec 32 := 0#32
  let v161 : BitVec 1 := Scalar.cmpi .sgt arg11 c0_i32_64
  let v162 : BitVec 32 := Scalar.extui v161
  let c0_i32_65 : BitVec 32 := 0#32
  let v163 : BitVec 1 := Scalar.cmpi .slt arg11 c0_i32_65
  let v164 : BitVec 32 := Scalar.extui v163
  let v165 : BitVec 32 := Scalar.subi v162 v164
  let c4_i32_63 : BitVec 32 := 4#32
  let c0_i32_66 : BitVec 32 := 0#32
  let v166 : BitVec 1 := Scalar.cmpi .sgt c4_i32_63 c0_i32_66
  let v167 : BitVec 32 := Scalar.extui v166
  let c0_i32_67 : BitVec 32 := 0#32
  let v168 : BitVec 1 := Scalar.cmpi .slt c4_i32_63 c0_i32_67
  let v169 : BitVec 32 := Scalar.extui v168
  let v170 : BitVec 32 := Scalar.subi v167 v169
  let v171 : BitVec 1 := Scalar.cmpi .ne v165 v170
  let v172 : BitVec 32 := Scalar.remsi arg11 c4_i32_63
  let c0_i32_68 : BitVec 32 := 0#32
  let v173 : BitVec 1 := Scalar.cmpi .ne v172 c0_i32_68
  let v174 : BitVec 1 := Scalar.andi v171 v173
  let v160 : BitVec 32 := Scalar.divsi arg11 c4_i32_63
  let c1_i32_69 : BitVec 32 := 1#32
  let v175 : BitVec 32 := Scalar.subi v160 c1_i32_69
  let v176 : BitVec 32 := Scalar.select v174 v175 v160
  let v193 : BitVec 32 := Scalar.addi v176 c0_i32_79
  let c128_i32_80 : BitVec 32 := 128#32
  let v194 : BitVec 32 := Scalar.muli v193 c128_i32_80
  let c4_i32_70 : BitVec 32 := 4#32
  let c0_i32_71 : BitVec 32 := 0#32
  let v177 : BitVec 1 := Scalar.cmpi .eq c4_i32_70 c0_i32_71
  let c1_i32_72 : BitVec 32 := 1#32
  let v178 : BitVec 32 := Scalar.select v177 c1_i32_72 c4_i32_70
  let v179 : BitVec 32 := Scalar.remsi arg11 v178
  let c0_i32_74 : BitVec 32 := 0#32
  let v181 : BitVec 1 := Scalar.cmpi .slt v179 c0_i32_74
  let c0_i32_75 : BitVec 32 := 0#32
  let v182 : BitVec 1 := Scalar.cmpi .slt v178 c0_i32_75
  let v183 : BitVec 1 := Scalar.xori v181 v182
  let c0_i32_73 : BitVec 32 := 0#32
  let v180 : BitVec 1 := Scalar.cmpi .ne v179 c0_i32_73
  let v184 : BitVec 1 := Scalar.andi v183 v180
  let v185 : BitVec 32 := Scalar.addi v179 v178
  let v186 : BitVec 32 := Scalar.select v184 v185 v179
  let c32_i32 : BitVec 32 := 32#32
  let v187 : BitVec 32 := Scalar.muli v186 c32_i32
  let v188 : BitVec 32 := v187
  let v195 : BitVec 32 := Scalar.addi v194 v188
  let v658 : Index := Scalar.indexCast v195
  let c0_438 : Index := 0#32
  ![2, v658.toNat, 0]
def k0_off21 (k0_t2 : Fin k0_t2_loop.trips) (c0_i32_79 : BitVec 32) : Fin 3 → Nat :=
  let c3_461 : Index := 3#32
  let c0_i32_55 : BitVec 32 := 0#32
  let c1_i32_57 : BitVec 32 := 1#32
  let arg11 : BitVec 32 := Scf.iv c0_i32_55 c1_i32_57 k0_t2
  let c0_i32_64 : BitVec 32 := 0#32
  let v161 : BitVec 1 := Scalar.cmpi .sgt arg11 c0_i32_64
  let v162 : BitVec 32 := Scalar.extui v161
  let c0_i32_65 : BitVec 32 := 0#32
  let v163 : BitVec 1 := Scalar.cmpi .slt arg11 c0_i32_65
  let v164 : BitVec 32 := Scalar.extui v163
  let v165 : BitVec 32 := Scalar.subi v162 v164
  let c4_i32_63 : BitVec 32 := 4#32
  let c0_i32_66 : BitVec 32 := 0#32
  let v166 : BitVec 1 := Scalar.cmpi .sgt c4_i32_63 c0_i32_66
  let v167 : BitVec 32 := Scalar.extui v166
  let c0_i32_67 : BitVec 32 := 0#32
  let v168 : BitVec 1 := Scalar.cmpi .slt c4_i32_63 c0_i32_67
  let v169 : BitVec 32 := Scalar.extui v168
  let v170 : BitVec 32 := Scalar.subi v167 v169
  let v171 : BitVec 1 := Scalar.cmpi .ne v165 v170
  let v172 : BitVec 32 := Scalar.remsi arg11 c4_i32_63
  let c0_i32_68 : BitVec 32 := 0#32
  let v173 : BitVec 1 := Scalar.cmpi .ne v172 c0_i32_68
  let v174 : BitVec 1 := Scalar.andi v171 v173
  let v160 : BitVec 32 := Scalar.divsi arg11 c4_i32_63
  let c1_i32_69 : BitVec 32 := 1#32
  let v175 : BitVec 32 := Scalar.subi v160 c1_i32_69
  let v176 : BitVec 32 := Scalar.select v174 v175 v160
  let v193 : BitVec 32 := Scalar.addi v176 c0_i32_79
  let c128_i32_80 : BitVec 32 := 128#32
  let v194 : BitVec 32 := Scalar.muli v193 c128_i32_80
  let c4_i32_70 : BitVec 32 := 4#32
  let c0_i32_71 : BitVec 32 := 0#32
  let v177 : BitVec 1 := Scalar.cmpi .eq c4_i32_70 c0_i32_71
  let c1_i32_72 : BitVec 32 := 1#32
  let v178 : BitVec 32 := Scalar.select v177 c1_i32_72 c4_i32_70
  let v179 : BitVec 32 := Scalar.remsi arg11 v178
  let c0_i32_74 : BitVec 32 := 0#32
  let v181 : BitVec 1 := Scalar.cmpi .slt v179 c0_i32_74
  let c0_i32_75 : BitVec 32 := 0#32
  let v182 : BitVec 1 := Scalar.cmpi .slt v178 c0_i32_75
  let v183 : BitVec 1 := Scalar.xori v181 v182
  let c0_i32_73 : BitVec 32 := 0#32
  let v180 : BitVec 1 := Scalar.cmpi .ne v179 c0_i32_73
  let v184 : BitVec 1 := Scalar.andi v183 v180
  let v185 : BitVec 32 := Scalar.addi v179 v178
  let v186 : BitVec 32 := Scalar.select v184 v185 v179
  let c32_i32 : BitVec 32 := 32#32
  let v187 : BitVec 32 := Scalar.muli v186 c32_i32
  let v188 : BitVec 32 := v187
  let v195 : BitVec 32 := Scalar.addi v194 v188
  let v718 : Index := Scalar.indexCast v195
  let c0_462 : Index := 0#32
  ![3, v718.toNat, 0]
@[reducible] def k0_t3_loop : Scf.Loop 32 :=
  let c0_i32_59 : BitVec 32 := 0#32
  let c16_i32_60 : BitVec 32 := 16#32
  let v159 : BitVec 32 := Scalar.addi c0_i32_59 c16_i32_60
  let c1_i32_61 : BitVec 32 := 1#32
  ⟨c0_i32_59, v159, c1_i32_61⟩
def k0_mult5 (k0_t3 : Fin k0_t3_loop.trips) : BitVec 32 :=
  let c0_i32_59 : BitVec 32 := 0#32
  let c1_i32_61 : BitVec 32 := 1#32
  let arg11 : BitVec 32 := Scf.iv c0_i32_59 c1_i32_61 k0_t3
  let c128_i32_63 : BitVec 32 := 128#32
  let v160 : BitVec 32 := Scalar.muli arg11 c128_i32_63
  v160
def k0_off22 (k0_t3 : Fin k0_t3_loop.trips) : Fin 3 → Nat :=
  let c0_67 : Index := 0#32
  let c0_i32_59 : BitVec 32 := 0#32
  let c1_i32_61 : BitVec 32 := 1#32
  let arg11 : BitVec 32 := Scf.iv c0_i32_59 c1_i32_61 k0_t3
  let c128_i32_63 : BitVec 32 := 128#32
  let v160 : BitVec 32 := Scalar.muli arg11 c128_i32_63
  let v161 : BitVec 32 := v160
  let v164 : Index := Scalar.indexCast v161
  let c0_68 : Index := 0#32
  ![0, v164.toNat, 0]
def k0_off23 (k0_t3 : Fin k0_t3_loop.trips) : Fin 3 → Nat :=
  let c0_71 : Index := 0#32
  let c0_i32_59 : BitVec 32 := 0#32
  let c1_i32_61 : BitVec 32 := 1#32
  let arg11 : BitVec 32 := Scf.iv c0_i32_59 c1_i32_61 k0_t3
  let c128_i32_63 : BitVec 32 := 128#32
  let v160 : BitVec 32 := Scalar.muli arg11 c128_i32_63
  let v161 : BitVec 32 := v160
  let v172 : Index := Scalar.indexCast v161
  let c0_72 : Index := 0#32
  ![0, v172.toNat, 0]
def k0_off24 (k0_t3 : Fin k0_t3_loop.trips) : Fin 3 → Nat :=
  let c0_73 : Index := 0#32
  let c0_i32_59 : BitVec 32 := 0#32
  let c1_i32_61 : BitVec 32 := 1#32
  let arg11 : BitVec 32 := Scf.iv c0_i32_59 c1_i32_61 k0_t3
  let c128_i32_63 : BitVec 32 := 128#32
  let v160 : BitVec 32 := Scalar.muli arg11 c128_i32_63
  let v161 : BitVec 32 := v160
  let v175 : Index := Scalar.indexCast v161
  let c128 : Index := 128#32
  ![0, v175.toNat, 128]
def k0_off25 (k0_t3 : Fin k0_t3_loop.trips) : Fin 3 → Nat :=
  let c0_74 : Index := 0#32
  let c0_i32_59 : BitVec 32 := 0#32
  let c1_i32_61 : BitVec 32 := 1#32
  let arg11 : BitVec 32 := Scf.iv c0_i32_59 c1_i32_61 k0_t3
  let c128_i32_63 : BitVec 32 := 128#32
  let v160 : BitVec 32 := Scalar.muli arg11 c128_i32_63
  let v161 : BitVec 32 := v160
  let v178 : Index := Scalar.indexCast v161
  let c256 : Index := 256#32
  ![0, v178.toNat, 256]
def k0_off26 (k0_t3 : Fin k0_t3_loop.trips) : Fin 3 → Nat :=
  let c0_75 : Index := 0#32
  let c0_i32_59 : BitVec 32 := 0#32
  let c1_i32_61 : BitVec 32 := 1#32
  let arg11 : BitVec 32 := Scf.iv c0_i32_59 c1_i32_61 k0_t3
  let c128_i32_63 : BitVec 32 := 128#32
  let v160 : BitVec 32 := Scalar.muli arg11 c128_i32_63
  let v161 : BitVec 32 := v160
  let v181 : Index := Scalar.indexCast v161
  let c384 : Index := 384#32
  ![0, v181.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | "qscale" => some (((Real.log 2)⁻¹ * (11863283 / 134217728) : ℝ) : EReal)
  | _ => none
-- ==== MlpLast.lean ====
abbrev S8x2048x2048 : Shape := ⟨3, ![8, 2048, 2048]⟩
abbrev S2x2048 : Shape := ⟨2, ![2, 2048]⟩
abbrev S2x2048x8192 : Shape := ⟨3, ![2, 2048, 8192]⟩
abbrev S2x8192x2048 : Shape := ⟨3, ![2, 8192, 2048]⟩
abbrev S2048 : Shape := ⟨1, ![2048]⟩
abbrev S16384x2048 : Shape := ⟨2, ![16384, 2048]⟩
abbrev S1x2048 : Shape := ⟨2, ![1, 2048]⟩
abbrev S1024x2048 : Shape := ⟨2, ![1024, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S2048x512 : Shape := ⟨2, ![2048, 512]⟩
abbrev S512x2048 : Shape := ⟨2, ![512, 2048]⟩
abbrev S1024x512 : Shape := ⟨2, ![1024, 512]⟩

abbrev nBuf : Space → Nat
  | .hbm => 11
  | .vmem => 11
  | .smem => 0
  | _ => 0

abbrev bufTy : (tb : Table) → Fin (tcTables nBuf tb) → BufTy
  | .hbm, ⟨0, _⟩ => ⟨S8x2048x2048, .f32⟩
  | .hbm, ⟨1, _⟩ => ⟨S2x2048, .f32⟩
  | .hbm, ⟨2, _⟩ => ⟨S2x2048x8192, .f32⟩
  | .hbm, ⟨3, _⟩ => ⟨S2x8192x2048, .f32⟩
  | .hbm, ⟨4, _⟩ => ⟨S2048, .f32⟩
  | .hbm, ⟨5, _⟩ => ⟨S16384x2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1x512x2048, .f32⟩
  | .local _ .vmem, ⟨6, _⟩ => ⟨S1x512x2048, .f32⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpLastReferenceIdeal.lean ====
abbrev S8x2048x2048 : Shape := ⟨3, ![8, 2048, 2048]⟩
abbrev S2x2048 : Shape := ⟨2, ![2, 2048]⟩
abbrev S2x2048x8192 : Shape := ⟨3, ![2, 2048, 8192]⟩
abbrev S2x8192x2048 : Shape := ⟨3, ![2, 8192, 2048]⟩
abbrev S2048 : Shape := ⟨1, ![2048]⟩
abbrev S1x2048 : Shape := ⟨2, ![1, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S8x2048x8192 : Shape := ⟨3, ![8, 2048, 8192]⟩
abbrev S16384x2048 : Shape := ⟨2, ![16384, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2x2048, .f32⟩
  | .hbm, ⟨2, _⟩ => ⟨S2x2048x8192, .f32⟩
  | .hbm, ⟨3, _⟩ => ⟨S2x8192x2048, .f32⟩
  | .hbm, ⟨4, _⟩ => ⟨S2048, .f32⟩
  | .hbm, ⟨5, _⟩ => ⟨S1x2048, .f32⟩
  | .hbm, ⟨6, _⟩ => ⟨S2048, .f32⟩
  | .hbm, ⟨7, _⟩ => ⟨S8x2048x2048, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x2048, .f32⟩
  | .hbm, ⟨19, _⟩ => ⟨S8x2048x2048, .f32⟩
  | .hbm, ⟨20, _⟩ => ⟨S1x1x2048, .f32⟩
  | .hbm, ⟨21, _⟩ => ⟨S8x2048x2048, .f32⟩
  | .hbm, ⟨22, _⟩ => ⟨S8x2048x2048, .f32⟩
  | .hbm, ⟨23, _⟩ => ⟨S1x2048x8192, .f32⟩
  | .hbm, ⟨24, _⟩ => ⟨S2048x8192, .f32⟩
  | .hbm, ⟨25, _⟩ => ⟨S1x8192x2048, .f32⟩
  | .hbm, ⟨26, _⟩ => ⟨S8192x2048, .f32⟩
  | .hbm, ⟨27, _⟩ => ⟨S8x2048x8192, .f32⟩
  | .hbm, ⟨28, _⟩ => ⟨S_, .f32⟩
  | .hbm, ⟨29, _⟩ => ⟨S8x2048x8192, .f32⟩
  | .hbm, ⟨30, _⟩ => ⟨S8x2048x8192, .f32⟩
  | .hbm, ⟨31, _⟩ => ⟨S8x2048x8192, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S_, .f32⟩
  | .hbm, ⟨36, _⟩ => ⟨S8x2048, .f32⟩
  | .hbm, ⟨37, _⟩ => ⟨S8x2048x1, .f32⟩
  | .hbm, ⟨38, _⟩ => ⟨S_, .f32⟩
  | .hbm, ⟨39, _⟩ => ⟨S8x2048x1, .f32⟩
  | .hbm, ⟨40, _⟩ => ⟨S8x2048x1, .f32⟩
  | .hbm, ⟨41, _⟩ => ⟨S_, .f32⟩
  | .hbm, ⟨42, _⟩ => ⟨S8x2048x1, .f32⟩
  | .hbm, ⟨43, _⟩ => ⟨S8x2048x1, .f32⟩
  | .hbm, ⟨44, _⟩ => ⟨S8x2048x1, .f32⟩
  | .hbm, ⟨45, _⟩ => ⟨S8x2048x2048, .f32⟩
  | .hbm, ⟨46, _⟩ => ⟨S8x2048x2048, .f32⟩
  | .hbm, ⟨47, _⟩ => ⟨S1x1x2048, .f32⟩
  | .hbm, ⟨48, _⟩ => ⟨S8x2048x2048, .f32⟩
  | .hbm, ⟨49, _⟩ => ⟨S8x2048x2048, .f32⟩
  | .hbm, ⟨50, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_cst : Ref sig .tc := ⟨.hbm, 28, rfl⟩
abbrev main_call0_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== MlpFirst.lean ====
abbrev S8x2048x2048 : Shape := ⟨3, ![8, 2048, 2048]⟩
abbrev S2x2048 : Shape := ⟨2, ![2, 2048]⟩
abbrev S2x2048x8192 : Shape := ⟨3, ![2, 2048, 8192]⟩
abbrev S2x8192x2048 : Shape := ⟨3, ![2, 8192, 2048]⟩
abbrev S2048 : Shape := ⟨1, ![2048]⟩
abbrev S16384x2048 : Shape := ⟨2, ![16384, 2048]⟩
abbrev S1x2048 : Shape := ⟨2, ![1, 2048]⟩
abbrev S1024x2048 : Shape := ⟨2, ![1024, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S2048x512 : Shape := ⟨2, ![2048, 512]⟩
abbrev S512x2048 : Shape := ⟨2, ![512, 2048]⟩
abbrev S1024x512 : Shape := ⟨2, ![1024, 512]⟩

abbrev nBuf : Space → Nat
  | .hbm => 11
  | .vmem => 11
  | .smem => 0
  | _ => 0

abbrev bufTy : (tb : Table) → Fin (tcTables nBuf tb) → BufTy
  | .hbm, ⟨0, _⟩ => ⟨S8x2048x2048, .f32⟩
  | .hbm, ⟨1, _⟩ => ⟨S2x2048, .f32⟩
  | .hbm, ⟨2, _⟩ => ⟨S2x2048x8192, .f32⟩
  | .hbm, ⟨3, _⟩ => ⟨S2x8192x2048, .f32⟩
  | .hbm, ⟨4, _⟩ => ⟨S2048, .f32⟩
  | .hbm, ⟨5, _⟩ => ⟨S16384x2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1x512x2048, .f32⟩
  | .local _ .vmem, ⟨6, _⟩ => ⟨S1x512x2048, .f32⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpFirstReferenceIdeal.lean ====
abbrev S8x2048x2048 : Shape := ⟨3, ![8, 2048, 2048]⟩
abbrev S2x2048 : Shape := ⟨2, ![2, 2048]⟩
abbrev S2x2048x8192 : Shape := ⟨3, ![2, 2048, 8192]⟩
abbrev S2x8192x2048 : Shape := ⟨3, ![2, 8192, 2048]⟩
abbrev S2048 : Shape := ⟨1, ![2048]⟩
abbrev S1x2048 : Shape := ⟨2, ![1, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S8x2048x8192 : Shape := ⟨3, ![8, 2048, 8192]⟩
abbrev S16384x2048 : Shape := ⟨2, ![16384, 2048]⟩

abbrev nBuf : Space → Nat
  | .hbm => 35
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2x2048, .f32⟩
  | .hbm, ⟨2, _⟩ => ⟨S2x2048x8192, .f32⟩
  | .hbm, ⟨3, _⟩ => ⟨S2x8192x2048, .f32⟩
  | .hbm, ⟨4, _⟩ => ⟨S2048, .f32⟩
  | .hbm, ⟨5, _⟩ => ⟨S1x2048, .f32⟩
  | .hbm, ⟨6, _⟩ => ⟨S2048, .f32⟩
  | .hbm, ⟨7, _⟩ => ⟨S8x2048x2048, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x2048, .f32⟩
  | .hbm, ⟨19, _⟩ => ⟨S8x2048x2048, .f32⟩
  | .hbm, ⟨20, _⟩ => ⟨S1x1x2048, .f32⟩
  | .hbm, ⟨21, _⟩ => ⟨S8x2048x2048, .f32⟩
  | .hbm, ⟨22, _⟩ => ⟨S8x2048x2048, .f32⟩
  | .hbm, ⟨23, _⟩ => ⟨S1x2048x8192, .f32⟩
  | .hbm, ⟨24, _⟩ => ⟨S2048x8192, .f32⟩
  | .hbm, ⟨25, _⟩ => ⟨S1x8192x2048, .f32⟩
  | .hbm, ⟨26, _⟩ => ⟨S8192x2048, .f32⟩
  | .hbm, ⟨27, _⟩ => ⟨S8x2048x8192, .f32⟩
  | .hbm, ⟨28, _⟩ => ⟨S_, .f32⟩
  | .hbm, ⟨29, _⟩ => ⟨S8x2048x8192, .f32⟩
  | .hbm, ⟨30, _⟩ => ⟨S8x2048x8192, .f32⟩
  | .hbm, ⟨31, _⟩ => ⟨S8x2048x8192, .f32⟩
  | .hbm, ⟨32, _⟩ => ⟨S8x2048x2048, .f32⟩
  | .hbm, ⟨33, _⟩ => ⟨S8x2048x2048, .f32⟩
  | .hbm, ⟨34, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_cst : Ref sig .tc := ⟨.hbm, 28, rfl⟩
abbrev main_call0_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Conv.lean ====
abbrev S8x2048x2048 : Shape := ⟨3, ![8, 2048, 2048]⟩
abbrev S2x2048 : Shape := ⟨2, ![2, 2048]⟩
abbrev S1x2048x4096 : Shape := ⟨3, ![1, 2048, 4096]⟩
abbrev S1x4096 : Shape := ⟨2, ![1, 4096]⟩
abbrev S1x31x2048 : Shape := ⟨3, ![1, 31, 2048]⟩
abbrev S1x2048 : Shape := ⟨2, ![1, 2048]⟩
abbrev S1x2048x2048 : Shape := ⟨3, ![1, 2048, 2048]⟩
abbrev S16384x2048 : Shape := ⟨2, ![16384, 2048]⟩
abbrev S2048 : Shape := ⟨1, ![2048]⟩
abbrev S2048x4096 : Shape := ⟨2, ![2048, 4096]⟩
abbrev S4096 : Shape := ⟨1, ![4096]⟩
abbrev S31x2048 : Shape := ⟨2, ![31, 2048]⟩
abbrev S2048x2048 : Shape := ⟨2, ![2048, 2048]⟩
abbrev S512x2048 : Shape := ⟨2, ![512, 2048]⟩
abbrev S544x2048 : Shape := ⟨2, ![544, 2048]⟩
abbrev S32x2048 : Shape := ⟨2, ![32, 2048]⟩
abbrev S512 : Shape := ⟨1, ![512]⟩
abbrev S512x1 : Shape := ⟨2, ![512, 1]⟩
abbrev S2048x256 : Shape := ⟨2, ![2048, 256]⟩
abbrev S512x256 : Shape := ⟨2, ![512, 256]⟩
abbrev S1x256 : Shape := ⟨2, ![1, 256]⟩
abbrev S520x128 : Shape := ⟨2, ![520, 128]⟩
abbrev S1x128 : Shape := ⟨2, ![1, 128]⟩
abbrev S512x128 : Shape := ⟨2, ![512, 128]⟩

abbrev nBuf : Space → Nat
  | .hbm => 30
  | .vmem => 15
  | .smem => 0
  | _ => 0

abbrev bufTy : (tb : Table) → Fin (tcTables nBuf tb) → BufTy
  | .hbm, ⟨0, _⟩ => ⟨S8x2048x2048, .f32⟩
  | .hbm, ⟨1, _⟩ => ⟨S2x2048, .f32⟩
  | .hbm, ⟨2, _⟩ => ⟨S1x2048x4096, .f32⟩
  | .hbm, ⟨3, _⟩ => ⟨S1x4096, .f32⟩
  | .hbm, ⟨4, _⟩ => ⟨S1x31x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048x2048, .f32⟩
  | .hbm, ⟨9, _⟩ => ⟨S1x2048, .f32⟩
  | .hbm, ⟨10, _⟩ => ⟨S16384x2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S2048x4096, .f32⟩
  | .hbm, ⟨15, _⟩ => ⟨S2048x4096, .bf16⟩
  | .hbm, ⟨16, _⟩ => ⟨S4096, .f32⟩
  | .hbm, ⟨17, _⟩ => ⟨S1x4096, .f32⟩
  | .hbm, ⟨18, _⟩ => ⟨S31x2048, .f32⟩
  | .hbm, ⟨19, _⟩ => ⟨S2048, .f32⟩
  | .hbm, ⟨20, _⟩ => ⟨S1x2048, .f32⟩
  | .hbm, ⟨21, _⟩ => ⟨S2048, .f32⟩
  | .hbm, ⟨22, _⟩ => ⟨S1x2048, .f32⟩
  | .hbm, ⟨23, _⟩ => ⟨S2048, .f32⟩
  | .hbm, ⟨24, _⟩ => ⟨S1x2048, .f32⟩
  | .hbm, ⟨25, _⟩ => ⟨S2048x2048, .f32⟩
  | .hbm, ⟨26, _⟩ => ⟨S2048x2048, .bf16⟩
  | .hbm, ⟨27, _⟩ => ⟨S2048, .f32⟩
  | .hbm, ⟨28, _⟩ => ⟨S1x2048, .f32⟩
  | .hbm, ⟨29, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x4096, .bf16⟩
  | .local _ .vmem, ⟨4, _⟩ => ⟨S1x4096, .f32⟩
  | .local _ .vmem, ⟨5, _⟩ => ⟨S31x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S2048x2048, .bf16⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S544x2048, .f32⟩
  | .local _ .vmem, ⟨14, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S31x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ConvReferenceIdeal.lean ====
abbrev S8x2048x2048 : Shape := ⟨3, ![8, 2048, 2048]⟩
abbrev S2x2048 : Shape := ⟨2, ![2, 2048]⟩
abbrev S1x2048x4096 : Shape := ⟨3, ![1, 2048, 4096]⟩
abbrev S1x4096 : Shape := ⟨2, ![1, 4096]⟩
abbrev S1x31x2048 : Shape := ⟨3, ![1, 31, 2048]⟩
abbrev S1x2048 : Shape := ⟨2, ![1, 2048]⟩
abbrev S1x2048x2048 : Shape := ⟨3, ![1, 2048, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x4096 : Shape := ⟨2, ![2048, 4096]⟩
abbrev S4096 : Shape := ⟨1, ![4096]⟩
abbrev S31x2048 : Shape := ⟨2, ![31, 2048]⟩
abbrev S2048x2048 : Shape := ⟨2, ![2048, 2048]⟩
abbrev S8x2048x4096 : Shape := ⟨3, ![8, 2048, 4096]⟩
abbrev S1x1x4096 : Shape := ⟨3, ![1, 1, 4096]⟩
abbrev S8x2078x2048 : Shape := ⟨3, ![8, 2078, 2048]⟩
abbrev S16384x2048 : Shape := ⟨2, ![16384, 2048]⟩

abbrev nBuf : Space → Nat
  | .hbm => 318
  | .vmem => 0
  | .smem => 0
  | _ => 0

abbrev hbmTy0_0 (i : Nat) : BufTy := match i % 128 with
  | 0 => ⟨S8x2048x2048, .f32⟩
  | 1 => ⟨S2x2048, .f32⟩
  | 2 => ⟨S1x2048x4096, .f32⟩
  | 3 => ⟨S1x4096, .f32⟩
  | 4 => ⟨S1x31x2048, .f32⟩
  | 5 => ⟨S1x2048, .f32⟩
  | 6 => ⟨S1x2048, .f32⟩
  | 7 => ⟨S1x2048, .f32⟩
  | 8 => ⟨S1x2048x2048, .f32⟩
  | 9 => ⟨S1x2048, .f32⟩
  | 10 => ⟨S1x2048, .f32⟩
  | 11 => ⟨S2048, .f32⟩
  | 12 => ⟨S8x2048x2048, .f32⟩
  | 13 => ⟨S_, .f32⟩
  | 14 => ⟨S8x2048, .f32⟩
  | 15 => ⟨S8x2048x1, .f32⟩
  | 16 => ⟨S_, .f32⟩
  | 17 => ⟨S8x2048x1, .f32⟩
  | 18 => ⟨S8x2048x1, .f32⟩
  | 19 => ⟨S_, .f32⟩
  | 20 => ⟨S8x2048x1, .f32⟩
  | 21 => ⟨S8x2048x1, .f32⟩
  | 22 => ⟨S8x2048x1, .f32⟩
  | 23 => ⟨S8x2048x2048, .f32⟩
  | 24 => ⟨S8x2048x2048, .f32⟩
  | 25 => ⟨S1x1x2048, .f32⟩
  | 26 => ⟨S8x2048x2048, .f32⟩
  | 27 => ⟨S8x2048x2048, .f32⟩
  | 28 => ⟨S2048x4096, .f32⟩
  | 29 => ⟨S4096, .f32⟩
  | 30 => ⟨S31x2048, .f32⟩
  | 31 => ⟨S2048, .f32⟩
  | 32 => ⟨S2048, .f32⟩
  | 33 => ⟨S2048, .f32⟩
  | 34 => ⟨S2048x2048, .f32⟩
  | 35 => ⟨S2048, .f32⟩
  | 36 => ⟨S8x2048x4096, .f32⟩
  | 37 => ⟨S1x1x4096, .f32⟩
  | 38 => ⟨S8x2048x4096, .f32⟩
  | 39 => ⟨S8x2048x4096, .f32⟩
  | 40 => ⟨S8x2048x2048, .f32⟩
  | 41 => ⟨S8x2048x2048, .f32⟩
  | 42 => ⟨S8x2048x2048, .f32⟩
  | 43 => ⟨S8x2048x2048, .f32⟩
  | 44 => ⟨S_, .f32⟩
  | 45 => ⟨S8x2048x2048, .f32⟩
  | 46 => ⟨S8x2048x2048, .f32⟩
  | 47 => ⟨S_, .f32⟩
  | 48 => ⟨S8x2048x2048, .f32⟩
  | 49 => ⟨S8x2048x2048, .f32⟩
  | 50 => ⟨S8x2048x2048, .f32⟩
  | 51 => ⟨S_, .i32⟩
  | 52 => ⟨S_, .f32⟩
  | 53 => ⟨S8x2078x2048, .f32⟩
  | 54 => ⟨S8x2048x2048, .f32⟩
  | 55 => ⟨S1x2048, .f32⟩
  | 56 => ⟨S2048, .f32⟩
  | 57 => ⟨S1x1x2048, .f32⟩
  | 58 => ⟨S8x2048x2048, .f32⟩
  | 59 => ⟨S8x2048x2048, .f32⟩
  | 60 => ⟨S_, .f32⟩
  | 61 => ⟨S8x2048x2048, .f32⟩
  | 62 => ⟨S8x2048x2048, .f32⟩
  | 63 => ⟨S8x2048x2048, .f32⟩
  | 64 => ⟨S1x2048, .f32⟩
  | 65 => ⟨S2048, .f32⟩
  | 66 => ⟨S1x1x2048, .f32⟩
  | 67 => ⟨S8x2048x2048, .f32⟩
  | 68 => ⟨S8x2048x2048, .f32⟩
  | 69 => ⟨S8x2048x2048, .f32⟩
  | 70 => ⟨S8x2048x2048, .f32⟩
  | 71 => ⟨S1x2048, .f32⟩
  | 72 => ⟨S2048, .f32⟩
  | 73 => ⟨S1x1x2048, .f32⟩
  | 74 => ⟨S8x2048x2048, .f32⟩
  | 75 => ⟨S8x2048x2048, .f32⟩
  | 76 => ⟨S8x2048x2048, .f32⟩
  | 77 => ⟨S8x2048x2048, .f32⟩
  | 78 => ⟨S1x2048, .f32⟩
  | 79 => ⟨S2048, .f32⟩
  | 80 => ⟨S1x1x2048, .f32⟩
  | 81 => ⟨S8x2048x2048, .f32⟩
  | 82 => ⟨S8x2048x2048, .f32⟩
  | 83 => ⟨S8x2048x2048, .f32⟩
  | 84 => ⟨S8x2048x2048, .f32⟩
  | 85 => ⟨S1x2048, .f32⟩
  | 86 => ⟨S2048, .f32⟩
  | 87 => ⟨S1x1x2048, .f32⟩
  | 88 => ⟨S8x2048x2048, .f32⟩
  | 89 => ⟨S8x2048x2048, .f32⟩
  | 90 => ⟨S8x2048x2048, .f32⟩
  | 91 => ⟨S8x2048x2048, .f32⟩
  | 92 => ⟨S1x2048, .f32⟩
  | 93 => ⟨S2048, .f32⟩
  | 94 => ⟨S1x1x2048, .f32⟩
  | 95 => ⟨S8x2048x2048, .f32⟩
  | 96 => ⟨S8x2048x2048, .f32⟩
  | 97 => ⟨S8x2048x2048, .f32⟩
  | 98 => ⟨S8x2048x2048, .f32⟩
  | 99 => ⟨S1x2048, .f32⟩
  | 100 => ⟨S2048, .f32⟩
  | 101 => ⟨S1x1x2048, .f32⟩
  | 102 => ⟨S8x2048x2048, .f32⟩
  | 103 => ⟨S8x2048x2048, .f32⟩
  | 104 => ⟨S8x2048x2048, .f32⟩
  | 105 => ⟨S8x2048x2048, .f32⟩
  | 106 => ⟨S1x2048, .f32⟩
  | 107 => ⟨S2048, .f32⟩
  | 108 => ⟨S1x1x2048, .f32⟩
  | 109 => ⟨S8x2048x2048, .f32⟩
  | 110 => ⟨S8x2048x2048, .f32⟩
  | 111 => ⟨S8x2048x2048, .f32⟩
  | 112 => ⟨S8x2048x2048, .f32⟩
  | 113 => ⟨S1x2048, .f32⟩
  | 114 => ⟨S2048, .f32⟩
  | 115 => ⟨S1x1x2048, .f32⟩
  | 116 => ⟨S8x2048x2048, .f32⟩
  | 117 => ⟨S8x2048x2048, .f32⟩
  | 118 => ⟨S8x2048x2048, .f32⟩
  | 119 => ⟨S8x2048x2048, .f32⟩
  | 120 => ⟨S1x2048, .f32⟩
  | 121 => ⟨S2048, .f32⟩
  | 122 => ⟨S1x1x2048, .f32⟩
  | 123 => ⟨S8x2048x2048, .f32⟩
  | 124 => ⟨S8x2048x2048, .f32⟩
  | 125 => ⟨S8x2048x2048, .f32⟩
  | 126 => ⟨S8x2048x2048, .f32⟩
  | 127 => ⟨S1x2048, .f32⟩
  | _ => ⟨S8x2048x2048, .f32⟩

abbrev hbmTy0_1 (i : Nat) : BufTy := match i % 128 with
  | 0 => ⟨S2048, .f32⟩
  | 1 => ⟨S1x1x2048, .f32⟩
  | 2 => ⟨S8x2048x2048, .f32⟩
  | 3 => ⟨S8x2048x2048, .f32⟩
  | 4 => ⟨S8x2048x2048, .f32⟩
  | 5 => ⟨S8x2048x2048, .f32⟩
  | 6 => ⟨S1x2048, .f32⟩
  | 7 => ⟨S2048, .f32⟩
  | 8 => ⟨S1x1x2048, .f32⟩
  | 9 => ⟨S8x2048x2048, .f32⟩
  | 10 => ⟨S8x2048x2048, .f32⟩
  | 11 => ⟨S8x2048x2048, .f32⟩
  | 12 => ⟨S8x2048x2048, .f32⟩
  | 13 => ⟨S1x2048, .f32⟩
  | 14 => ⟨S2048, .f32⟩
  | 15 => ⟨S1x1x2048, .f32⟩
  | 16 => ⟨S8x2048x2048, .f32⟩
  | 17 => ⟨S8x2048x2048, .f32⟩
  | 18 => ⟨S8x2048x2048, .f32⟩
  | 19 => ⟨S8x2048x2048, .f32⟩
  | 20 => ⟨S1x2048, .f32⟩
  | 21 => ⟨S2048, .f32⟩
  | 22 => ⟨S1x1x2048, .f32⟩
  | 23 => ⟨S8x2048x2048, .f32⟩
  | 24 => ⟨S8x2048x2048, .f32⟩
  | 25 => ⟨S8x2048x2048, .f32⟩
  | 26 => ⟨S8x2048x2048, .f32⟩
  | 27 => ⟨S1x2048, .f32⟩
  | 28 => ⟨S2048, .f32⟩
  | 29 => ⟨S1x1x2048, .f32⟩
  | 30 => ⟨S8x2048x2048, .f32⟩
  | 31 => ⟨S8x2048x2048, .f32⟩
  | 32 => ⟨S8x2048x2048, .f32⟩
  | 33 => ⟨S8x2048x2048, .f32⟩
  | 34 => ⟨S1x2048, .f32⟩
  | 35 => ⟨S2048, .f32⟩
  | 36 => ⟨S1x1x2048, .f32⟩
  | 37 => ⟨S8x2048x2048, .f32⟩
  | 38 => ⟨S8x2048x2048, .f32⟩
  | 39 => ⟨S8x2048x2048, .f32⟩
  | 40 => ⟨S8x2048x2048, .f32⟩
  | 41 => ⟨S1x2048, .f32⟩
  | 42 => ⟨S2048, .f32⟩
  | 43 => ⟨S1x1x2048, .f32⟩
  | 44 => ⟨S8x2048x2048, .f32⟩
  | 45 => ⟨S8x2048x2048, .f32⟩
  | 46 => ⟨S8x2048x2048, .f32⟩
  | 47 => ⟨S8x2048x2048, .f32⟩
  | 48 => ⟨S1x2048, .f32⟩
  | 49 => ⟨S2048, .f32⟩
  | 50 => ⟨S1x1x2048, .f32⟩
  | 51 => ⟨S8x2048x2048, .f32⟩
  | 52 => ⟨S8x2048x2048, .f32⟩
  | 53 => ⟨S8x2048x2048, .f32⟩
  | 54 => ⟨S8x2048x2048, .f32⟩
  | 55 => ⟨S1x2048, .f32⟩
  | 56 => ⟨S2048, .f32⟩
  | 57 => ⟨S1x1x2048, .f32⟩
  | 58 => ⟨S8x2048x2048, .f32⟩
  | 59 => ⟨S8x2048x2048, .f32⟩
  | 60 => ⟨S8x2048x2048, .f32⟩
  | 61 => ⟨S8x2048x2048, .f32⟩
  | 62 => ⟨S1x2048, .f32⟩
  | 63 => ⟨S2048, .f32⟩
  | 64 => ⟨S1x1x2048, .f32⟩
  | 65 => ⟨S8x2048x2048, .f32⟩
  | 66 => ⟨S8x2048x2048, .f32⟩
  | 67 => ⟨S8x2048x2048, .f32⟩
  | 68 => ⟨S8x2048x2048, .f32⟩
  | 69 => ⟨S1x2048, .f32⟩
  | 70 => ⟨S2048, .f32⟩
  | 71 => ⟨S1x1x2048, .f32⟩
  | 72 => ⟨S8x2048x2048, .f32⟩
  | 73 => ⟨S8x2048x2048, .f32⟩
  | 74 => ⟨S8x2048x2048, .f32⟩
  | 75 => ⟨S8x2048x2048, .f32⟩
  | 76 => ⟨S1x2048, .f32⟩
  | 77 => ⟨S2048, .f32⟩
  | 78 => ⟨S1x1x2048, .f32⟩
  | 79 => ⟨S8x2048x2048, .f32⟩
  | 80 => ⟨S8x2048x2048, .f32⟩
  | 81 => ⟨S8x2048x2048, .f32⟩
  | 82 => ⟨S8x2048x2048, .f32⟩
  | 83 => ⟨S1x2048, .f32⟩
  | 84 => ⟨S2048, .f32⟩
  | 85 => ⟨S1x1x2048, .f32⟩
  | 86 => ⟨S8x2048x2048, .f32⟩
  | 87 => ⟨S8x2048x2048, .f32⟩
  | 88 => ⟨S8x2048x2048, .f32⟩
  | 89 => ⟨S8x2048x2048, .f32⟩
  | 90 => ⟨S1x2048, .f32⟩
  | 91 => ⟨S2048, .f32⟩
  | 92 => ⟨S1x1x2048, .f32⟩
  | 93 => ⟨S8x2048x2048, .f32⟩
  | 94 => ⟨S8x2048x2048, .f32⟩
  | 95 => ⟨S8x2048x2048, .f32⟩
  | 96 => ⟨S8x2048x2048, .f32⟩
  | 97 => ⟨S1x2048, .f32⟩
  | 98 => ⟨S2048, .f32⟩
  | 99 => ⟨S1x1x2048, .f32⟩
  | 100 => ⟨S8x2048x2048, .f32⟩
  | 101 => ⟨S8x2048x2048, .f32⟩
  | 102 => ⟨S8x2048x2048, .f32⟩
  | 103 => ⟨S8x2048x2048, .f32⟩
  | 104 => ⟨S1x2048, .f32⟩
  | 105 => ⟨S2048, .f32⟩
  | 106 => ⟨S1x1x2048, .f32⟩
  | 107 => ⟨S8x2048x2048, .f32⟩
  | 108 => ⟨S8x2048x2048, .f32⟩
  | 109 => ⟨S8x2048x2048, .f32⟩
  | 110 => ⟨S8x2048x2048, .f32⟩
  | 111 => ⟨S1x2048, .f32⟩
  | 112 => ⟨S2048, .f32⟩
  | 113 => ⟨S1x1x2048, .f32⟩
  | 114 => ⟨S8x2048x2048, .f32⟩
  | 115 => ⟨S8x2048x2048, .f32⟩
  | 116 => ⟨S8x2048x2048, .f32⟩
  | 117 => ⟨S8x2048x2048, .f32⟩
  | 118 => ⟨S1x2048, .f32⟩
  | 119 => ⟨S2048, .f32⟩
  | 120 => ⟨S1x1x2048, .f32⟩
  | 121 => ⟨S8x2048x2048, .f32⟩
  | 122 => ⟨S8x2048x2048, .f32⟩
  | 123 => ⟨S8x2048x2048, .f32⟩
  | 124 => ⟨S8x2048x2048, .f32⟩
  | 125 => ⟨S1x2048, .f32⟩
  | 126 => ⟨S2048, .f32⟩
  | 127 => ⟨S1x1x2048, .f32⟩
  | _ => ⟨S8x2048x2048, .f32⟩

abbrev hbmTy0_2 (i : Nat) : BufTy := match i % 128 with
  | 0 => ⟨S8x2048x2048, .f32⟩
  | 1 => ⟨S8x2048x2048, .f32⟩
  | 2 => ⟨S8x2048x2048, .f32⟩
  | 3 => ⟨S8x2048x2048, .f32⟩
  | 4 => ⟨S1x2048, .f32⟩
  | 5 => ⟨S2048, .f32⟩
  | 6 => ⟨S1x1x2048, .f32⟩
  | 7 => ⟨S8x2048x2048, .f32⟩
  | 8 => ⟨S8x2048x2048, .f32⟩
  | 9 => ⟨S8x2048x2048, .f32⟩
  | 10 => ⟨S8x2048x2048, .f32⟩
  | 11 => ⟨S1x2048, .f32⟩
  | 12 => ⟨S2048, .f32⟩
  | 13 => ⟨S1x1x2048, .f32⟩
  | 14 => ⟨S8x2048x2048, .f32⟩
  | 15 => ⟨S8x2048x2048, .f32⟩
  | 16 => ⟨S8x2048x2048, .f32⟩
  | 17 => ⟨S1x1x2048, .f32⟩
  | 18 => ⟨S8x2048x2048, .f32⟩
  | 19 => ⟨S8x2048x2048, .f32⟩
  | 20 => ⟨S_, .f32⟩
  | 21 => ⟨S8x2048, .f32⟩
  | 22 => ⟨S8x2048x1, .f32⟩
  | 23 => ⟨S_, .f32⟩
  | 24 => ⟨S8x2048x1, .f32⟩
  | 25 => ⟨S8x2048x1, .f32⟩
  | 26 => ⟨S8x2048x2048, .f32⟩
  | 27 => ⟨S8x2048x2048, .f32⟩
  | 28 => ⟨S8x2048x2048, .f32⟩
  | 29 => ⟨S_, .f32⟩
  | 30 => ⟨S8x2048, .f32⟩
  | 31 => ⟨S8x2048x1, .f32⟩
  | 32 => ⟨S_, .f32⟩
  | 33 => ⟨S8x2048x1, .f32⟩
  | 34 => ⟨S8x2048x1, .f32⟩
  | 35 => ⟨S_, .f32⟩
  | 36 => ⟨S8x2048x1, .f32⟩
  | 37 => ⟨S8x2048x1, .f32⟩
  | 38 => ⟨S8x2048x1, .f32⟩
  | 39 => ⟨S8x2048x2048, .f32⟩
  | 40 => ⟨S8x2048x2048, .f32⟩
  | 41 => ⟨S1x1x2048, .f32⟩
  | 42 => ⟨S8x2048x2048, .f32⟩
  | 43 => ⟨S8x2048x2048, .f32⟩
  | 44 => ⟨S1x1x2048, .f32⟩
  | 45 => ⟨S8x2048x2048, .f32⟩
  | 46 => ⟨S8x2048x2048, .f32⟩
  | 47 => ⟨S8x2048x2048, .f32⟩
  | 48 => ⟨S8x2048x2048, .f32⟩
  | 49 => ⟨S_, .f32⟩
  | 50 => ⟨S8x2048x2048, .f32⟩
  | 51 => ⟨S8x2048x2048, .f32⟩
  | 52 => ⟨S_, .f32⟩
  | 53 => ⟨S8x2048x2048, .f32⟩
  | 54 => ⟨S8x2048x2048, .f32⟩
  | 55 => ⟨S8x2048x2048, .f32⟩
  | 56 => ⟨S8x2048x2048, .f32⟩
  | 57 => ⟨S1x1x2048, .f32⟩
  | 58 => ⟨S8x2048x2048, .f32⟩
  | 59 => ⟨S8x2048x2048, .f32⟩
  | 60 => ⟨S8x2048x2048, .f32⟩
  | 61 => ⟨S16384x2048, .f32⟩
  | _ => ⟨S8x2048x2048, .f32⟩

abbrev hbmTy (i : Nat) : BufTy := match i / 128 with
  | 0 => hbmTy0_0 i
  | 1 => hbmTy0_1 i
  | 2 => hbmTy0_2 i
  | _ => ⟨S8x2048x2048, .f32⟩

abbrev bufTy : (tb : Table) → Fin (tcTables nBuf tb) → BufTy
  | .hbm, ⟨i, _⟩ => hbmTy i
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c : Ref sig .tc := ⟨.hbm, 51, rfl⟩
abbrev main_call0_v0 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_4 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_v181 : Ref sig .tc := ⟨.hbm, 199, rfl⟩
abbrev main_v182 : Ref sig .tc := ⟨.hbm, 200, rfl⟩
abbrev main_v183 : Ref sig .tc := ⟨.hbm, 201, rfl⟩
abbrev main_v184 : Ref sig .tc := ⟨.hbm, 202, rfl⟩
abbrev main_v185 : Ref sig .tc := ⟨.hbm, 203, rfl⟩
abbrev main_v186 : Ref sig .tc := ⟨.hbm, 204, rfl⟩
abbrev main_v187 : Ref sig .tc := ⟨.hbm, 205, rfl⟩
abbrev main_v188 : Ref sig .tc := ⟨.hbm, 206, rfl⟩
abbrev main_v189 : Ref sig .tc := ⟨.hbm, 207, rfl⟩
abbrev main_v190 : Ref sig .tc := ⟨.hbm, 208, rfl⟩
abbrev main_v191 : Ref sig .tc := ⟨.hbm, 209, rfl⟩
abbrev main_v192 : Ref sig .tc := ⟨.hbm, 210, rfl⟩
abbrev main_v193 : Ref sig .tc := ⟨.hbm, 211, rfl⟩
abbrev main_v194 : Ref sig .tc := ⟨.hbm, 212, rfl⟩
abbrev main_v195 : Ref sig .tc := ⟨.hbm, 213, rfl⟩
abbrev main_v196 : Ref sig .tc := ⟨.hbm, 214, rfl⟩
abbrev main_v197 : Ref sig .tc := ⟨.hbm, 215, rfl⟩
abbrev main_v198 : Ref sig .tc := ⟨.hbm, 216, rfl⟩
abbrev main_v199 : Ref sig .tc := ⟨.hbm, 217, rfl⟩
abbrev main_v200 : Ref sig .tc := ⟨.hbm, 218, rfl⟩
abbrev main_v201 : Ref sig .tc := ⟨.hbm, 219, rfl⟩
abbrev main_v202 : Ref sig .tc := ⟨.hbm, 220, rfl⟩
abbrev main_v203 : Ref sig .tc := ⟨.hbm, 221, rfl⟩
abbrev main_v204 : Ref sig .tc := ⟨.hbm, 222, rfl⟩
abbrev main_v205 : Ref sig .tc := ⟨.hbm, 223, rfl⟩
abbrev main_v206 : Ref sig .tc := ⟨.hbm, 224, rfl⟩
abbrev main_v207 : Ref sig .tc := ⟨.hbm, 225, rfl⟩
abbrev main_v208 : Ref sig .tc := ⟨.hbm, 226, rfl⟩
abbrev main_v209 : Ref sig .tc := ⟨.hbm, 227, rfl⟩
abbrev main_v210 : Ref sig .tc := ⟨.hbm, 228, rfl⟩
abbrev main_v211 : Ref sig .tc := ⟨.hbm, 229, rfl⟩
abbrev main_v212 : Ref sig .tc := ⟨.hbm, 230, rfl⟩
abbrev main_v213 : Ref sig .tc := ⟨.hbm, 231, rfl⟩
abbrev main_v214 : Ref sig .tc := ⟨.hbm, 232, rfl⟩
abbrev main_v215 : Ref sig .tc := ⟨.hbm, 233, rfl⟩
abbrev main_v216 : Ref sig .tc := ⟨.hbm, 234, rfl⟩
abbrev main_v217 : Ref sig .tc := ⟨.hbm, 235, rfl⟩
abbrev main_v218 : Ref sig .tc := ⟨.hbm, 236, rfl⟩
abbrev main_v219 : Ref sig .tc := ⟨.hbm, 237, rfl⟩
abbrev main_v220 : Ref sig .tc := ⟨.hbm, 238, rfl⟩
abbrev main_v221 : Ref sig .tc := ⟨.hbm, 239, rfl⟩
abbrev main_v222 : Ref sig .tc := ⟨.hbm, 240, rfl⟩
abbrev main_v223 : Ref sig .tc := ⟨.hbm, 241, rfl⟩
abbrev main_v224 : Ref sig .tc := ⟨.hbm, 242, rfl⟩
abbrev main_v225 : Ref sig .tc := ⟨.hbm, 243, rfl⟩
abbrev main_v226 : Ref sig .tc := ⟨.hbm, 244, rfl⟩
abbrev main_v227 : Ref sig .tc := ⟨.hbm, 245, rfl⟩
abbrev main_v228 : Ref sig .tc := ⟨.hbm, 246, rfl⟩
abbrev main_v229 : Ref sig .tc := ⟨.hbm, 247, rfl⟩
abbrev main_v230 : Ref sig .tc := ⟨.hbm, 248, rfl⟩
abbrev main_v231 : Ref sig .tc := ⟨.hbm, 249, rfl⟩
abbrev main_v232 : Ref sig .tc := ⟨.hbm, 250, rfl⟩
abbrev main_v233 : Ref sig .tc := ⟨.hbm, 251, rfl⟩
abbrev main_v234 : Ref sig .tc := ⟨.hbm, 252, rfl⟩
abbrev main_v235 : Ref sig .tc := ⟨.hbm, 253, rfl⟩
abbrev main_v236 : Ref sig .tc := ⟨.hbm, 254, rfl⟩
abbrev main_v237 : Ref sig .tc := ⟨.hbm, 255, rfl⟩
abbrev main_v238 : Ref sig .tc := ⟨.hbm, 256, rfl⟩
abbrev main_v239 : Ref sig .tc := ⟨.hbm, 257, rfl⟩
abbrev main_v240 : Ref sig .tc := ⟨.hbm, 258, rfl⟩
abbrev main_v241 : Ref sig .tc := ⟨.hbm, 259, rfl⟩
abbrev main_v242 : Ref sig .tc := ⟨.hbm, 260, rfl⟩
abbrev main_v243 : Ref sig .tc := ⟨.hbm, 261, rfl⟩
abbrev main_v244 : Ref sig .tc := ⟨.hbm, 262, rfl⟩
abbrev main_v245 : Ref sig .tc := ⟨.hbm, 263, rfl⟩
abbrev main_v246 : Ref sig .tc := ⟨.hbm, 264, rfl⟩
abbrev main_v247 : Ref sig .tc := ⟨.hbm, 265, rfl⟩
abbrev main_v248 : Ref sig .tc := ⟨.hbm, 266, rfl⟩
abbrev main_v249 : Ref sig .tc := ⟨.hbm, 267, rfl⟩
abbrev main_v250 : Ref sig .tc := ⟨.hbm, 268, rfl⟩
abbrev main_v251 : Ref sig .tc := ⟨.hbm, 269, rfl⟩
abbrev main_v252 : Ref sig .tc := ⟨.hbm, 270, rfl⟩
abbrev main_v253 : Ref sig .tc := ⟨.hbm, 271, rfl⟩
abbrev main_v254 : Ref sig .tc := ⟨.hbm, 272, rfl⟩
abbrev main_v255 : Ref sig .tc := ⟨.hbm, 273, rfl⟩
abbrev main_v256 : Ref sig .tc := ⟨.hbm, 274, rfl⟩
abbrev main_v257 : Ref sig .tc := ⟨.hbm, 275, rfl⟩
abbrev main_cst_5 : Ref sig .tc := ⟨.hbm, 276, rfl⟩
abbrev main_v258 : Ref sig .tc := ⟨.hbm, 277, rfl⟩
abbrev main_v259 : Ref sig .tc := ⟨.hbm, 278, rfl⟩
abbrev main_cst_6 : Ref sig .tc := ⟨.hbm, 279, rfl⟩
abbrev main_v260 : Ref sig .tc := ⟨.hbm, 280, rfl⟩
abbrev main_v261 : Ref sig .tc := ⟨.hbm, 281, rfl⟩
abbrev main_v262 : Ref sig .tc := ⟨.hbm, 282, rfl⟩
abbrev main_v263 : Ref sig .tc := ⟨.hbm, 283, rfl⟩
abbrev main_v264 : Ref sig .tc := ⟨.hbm, 284, rfl⟩
abbrev main_cst_7 : Ref sig .tc := ⟨.hbm, 285, rfl⟩
abbrev main_v265 : Ref sig .tc := ⟨.hbm, 286, rfl⟩
abbrev main_v266 : Ref sig .tc := ⟨.hbm, 287, rfl⟩
abbrev main_cst_8 : Ref sig .tc := ⟨.hbm, 288, rfl⟩
abbrev main_v267 : Ref sig .tc := ⟨.hbm, 289, rfl⟩
abbrev main_v268 : Ref sig .tc := ⟨.hbm, 290, rfl⟩
abbrev main_cst_9 : Ref sig .tc := ⟨.hbm, 291, rfl⟩
abbrev main_v269 : Ref sig .tc := ⟨.hbm, 292, rfl⟩
abbrev main_v270 : Ref sig .tc := ⟨.hbm, 293, rfl⟩
abbrev main_v271 : Ref sig .tc := ⟨.hbm, 294, rfl⟩
abbrev main_v272 : Ref sig .tc := ⟨.hbm, 295, rfl⟩
abbrev main_v273 : Ref sig .tc := ⟨.hbm, 296, rfl⟩
abbrev main_v274 : Ref sig .tc := ⟨.hbm, 297, rfl⟩
abbrev main_v275 : Ref sig .tc := ⟨.hbm, 298, rfl⟩
abbrev main_v276 : Ref sig .tc := ⟨.hbm, 299, rfl⟩
abbrev main_v277 : Ref sig .tc := ⟨.hbm, 300, rfl⟩
abbrev main_v278 : Ref sig .tc := ⟨.hbm, 301, rfl⟩
abbrev main_v279 : Ref sig .tc := ⟨.hbm, 302, rfl⟩
abbrev main_call1_v0 : Ref sig .tc := ⟨.hbm, 303, rfl⟩
abbrev main_call1_v1 : Ref sig .tc := ⟨.hbm, 304, rfl⟩
abbrev main_call1_cst : Ref sig .tc := ⟨.hbm, 305, rfl⟩
abbrev main_call1_v2 : Ref sig .tc := ⟨.hbm, 306, rfl⟩
abbrev main_call1_v3 : Ref sig .tc := ⟨.hbm, 307, rfl⟩
abbrev main_call1_cst_0 : Ref sig .tc := ⟨.hbm, 308, rfl⟩
abbrev main_call1_v4 : Ref sig .tc := ⟨.hbm, 309, rfl⟩
abbrev main_call1_v5 : Ref sig .tc := ⟨.hbm, 310, rfl⟩
abbrev main_v280 : Ref sig .tc := ⟨.hbm, 311, rfl⟩
abbrev main_v281 : Ref sig .tc := ⟨.hbm, 312, rfl⟩
abbrev main_v282 : Ref sig .tc := ⟨.hbm, 313, rfl⟩
abbrev main_v283 : Ref sig .tc := ⟨.hbm, 314, rfl⟩
abbrev main_v284 : Ref sig .tc := ⟨.hbm, 315, rfl⟩
abbrev main_v285 : Ref sig .tc := ⟨.hbm, 316, rfl⟩
abbrev main_v286 : Ref sig .tc := ⟨.hbm, 317, rfl⟩

abbrev nD : Nat := 1
abbrev τ : Topo := Topo.v7x

variable {F : FTy → Type} [FloatOps F]
-- ==== Proof.RunIdeal.lean ====
module

public import proofs.«01_k».proof.Proof.Gen.KernelIdeal.Loops
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! Closed forms of the second loop's offsets. -/

theorem k0_off11_eq : ∀ k : Fin k0_t2_loop.trips, k0_off11 k = ![if k.val % 4 = 0 then 3 else 2, 0, 0] := by decide +kernel
theorem k0_off12_eq : ∀ k : Fin k0_t2_loop.trips, ∀ r : Fin 4, k0_off12 k (BitVec.ofNat 32 (4 * r.val)) = ![0, 128 * (k.val / 4 + 4 * r.val) + 32 * (k.val % 4 - 1), 0] := by decide +kernel
theorem k0_off13_eq : ∀ k : Fin k0_t2_loop.trips, ∀ r : Fin 4, k0_off13 k (BitVec.ofNat 32 (4 * r.val)) = ![0, 128 * (k.val / 4 + 4 * r.val) + 32 * (k.val % 4), 0] := by decide +kernel
theorem k0_off14_eq : ∀ k : Fin k0_t2_loop.trips, ∀ r : Fin 4, k0_off14 k (BitVec.ofNat 32 (4 * r.val)) = ![0, 128 * (k.val / 4 + 4 * r.val) + 32 * (k.val % 4), 128] := by decide +kernel
theorem k0_off15_eq : ∀ k : Fin k0_t2_loop.trips, ∀ r : Fin 4, k0_off15 k (BitVec.ofNat 32 (4 * r.val)) = ![0, 128 * (k.val / 4 + 4 * r.val) + 32 * (k.val % 4), 256] := by decide +kernel
theorem k0_off16_eq : ∀ k : Fin k0_t2_loop.trips, ∀ r : Fin 4, k0_off16 k (BitVec.ofNat 32 (4 * r.val)) = ![0, 128 * (k.val / 4 + 4 * r.val) + 32 * (k.val % 4), 384] := by decide +kernel
theorem k0_off17_eq : ∀ k : Fin k0_t2_loop.trips, ∀ r : Fin 4, k0_off17 k (BitVec.ofNat 32 (4 * r.val)) = ![0, 128 * (k.val / 4 + 4 * r.val) + 32 * (k.val % 4), 0] := by decide +kernel
instance (k : Fin k0_t2_loop.trips) : ClosedOff (k0_off17 k (BitVec.ofNat 32 0)) := ⟨![0, 128 * (k.val / 4 + 4 * 0) + 32 * (k.val % 4), 0], k0_off17_eq k ⟨0, by decide⟩⟩
instance (k : Fin k0_t2_loop.trips) : ClosedOff (k0_off17 k (BitVec.ofNat 32 4)) := ⟨![0, 128 * (k.val / 4 + 4 * 1) + 32 * (k.val % 4), 0], k0_off17_eq k ⟨1, by decide⟩⟩
instance (k : Fin k0_t2_loop.trips) : ClosedOff (k0_off17 k (BitVec.ofNat 32 8)) := ⟨![0, 128 * (k.val / 4 + 4 * 2) + 32 * (k.val % 4), 0], k0_off17_eq k ⟨2, by decide⟩⟩
instance (k : Fin k0_t2_loop.trips) : ClosedOff (k0_off17 k (BitVec.ofNat 32 12)) := ⟨![0, 128 * (k.val / 4 + 4 * 3) + 32 * (k.val % 4), 0], k0_off17_eq k ⟨3, by decide⟩⟩
theorem k0_off18_eq : ∀ k : Fin k0_t2_loop.trips, ∀ r : Fin 4, k0_off18 k (BitVec.ofNat 32 (4 * r.val)) = ![0, 128 * (k.val / 4 + 4 * r.val) + 32 * (k.val % 4), 0] := by decide +kernel
instance (k : Fin k0_t2_loop.trips) : ClosedOff (k0_off18 k (BitVec.ofNat 32 0)) := ⟨![0, 128 * (k.val / 4 + 4 * 0) + 32 * (k.val % 4), 0], k0_off18_eq k ⟨0, by decide⟩⟩
instance (k : Fin k0_t2_loop.trips) : ClosedOff (k0_off18 k (BitVec.ofNat 32 4)) := ⟨![0, 128 * (k.val / 4 + 4 * 1) + 32 * (k.val % 4), 0], k0_off18_eq k ⟨1, by decide⟩⟩
instance (k : Fin k0_t2_loop.trips) : ClosedOff (k0_off18 k (BitVec.ofNat 32 8)) := ⟨![0, 128 * (k.val / 4 + 4 * 2) + 32 * (k.val % 4), 0], k0_off18_eq k ⟨2, by decide⟩⟩
instance (k : Fin k0_t2_loop.trips) : ClosedOff (k0_off18 k (BitVec.ofNat 32 12)) := ⟨![0, 128 * (k.val / 4 + 4 * 3) + 32 * (k.val % 4), 0], k0_off18_eq k ⟨3, by decide⟩⟩
theorem k0_off19_eq : ∀ k : Fin k0_t2_loop.trips, ∀ r : Fin 4, k0_off19 k (BitVec.ofNat 32 (4 * r.val)) = ![1, 128 * (k.val / 4 + 4 * r.val) + 32 * (k.val % 4), 0] := by decide +kernel
instance (k : Fin k0_t2_loop.trips) : ClosedOff (k0_off19 k (BitVec.ofNat 32 0)) := ⟨![1, 128 * (k.val / 4 + 4 * 0) + 32 * (k.val % 4), 0], k0_off19_eq k ⟨0, by decide⟩⟩
instance (k : Fin k0_t2_loop.trips) : ClosedOff (k0_off19 k (BitVec.ofNat 32 4)) := ⟨![1, 128 * (k.val / 4 + 4 * 1) + 32 * (k.val % 4), 0], k0_off19_eq k ⟨1, by decide⟩⟩
instance (k : Fin k0_t2_loop.trips) : ClosedOff (k0_off19 k (BitVec.ofNat 32 8)) := ⟨![1, 128 * (k.val / 4 + 4 * 2) + 32 * (k.val % 4), 0], k0_off19_eq k ⟨2, by decide⟩⟩
instance (k : Fin k0_t2_loop.trips) : ClosedOff (k0_off19 k (BitVec.ofNat 32 12)) := ⟨![1, 128 * (k.val / 4 + 4 * 3) + 32 * (k.val % 4), 0], k0_off19_eq k ⟨3, by decide⟩⟩
theorem k0_off20_eq : ∀ k : Fin k0_t2_loop.trips, ∀ r : Fin 4, k0_off20 k (BitVec.ofNat 32 (4 * r.val)) = ![2, 128 * (k.val / 4 + 4 * r.val) + 32 * (k.val % 4), 0] := by decide +kernel
instance (k : Fin k0_t2_loop.trips) : ClosedOff (k0_off20 k (BitVec.ofNat 32 0)) := ⟨![2, 128 * (k.val / 4 + 4 * 0) + 32 * (k.val % 4), 0], k0_off20_eq k ⟨0, by decide⟩⟩
instance (k : Fin k0_t2_loop.trips) : ClosedOff (k0_off20 k (BitVec.ofNat 32 4)) := ⟨![2, 128 * (k.val / 4 + 4 * 1) + 32 * (k.val % 4), 0], k0_off20_eq k ⟨1, by decide⟩⟩
instance (k : Fin k0_t2_loop.trips) : ClosedOff (k0_off20 k (BitVec.ofNat 32 8)) := ⟨![2, 128 * (k.val / 4 + 4 * 2) + 32 * (k.val % 4), 0], k0_off20_eq k ⟨2, by decide⟩⟩
instance (k : Fin k0_t2_loop.trips) : ClosedOff (k0_off20 k (BitVec.ofNat 32 12)) := ⟨![2, 128 * (k.val / 4 + 4 * 3) + 32 * (k.val % 4), 0], k0_off20_eq k ⟨3, by decide⟩⟩
theorem k0_off21_eq : ∀ k : Fin k0_t2_loop.trips, ∀ r : Fin 4, k0_off21 k (BitVec.ofNat 32 (4 * r.val)) = ![3, 128 * (k.val / 4 + 4 * r.val) + 32 * (k.val % 4), 0] := by decide +kernel
instance (k : Fin k0_t2_loop.trips) : ClosedOff (k0_off21 k (BitVec.ofNat 32 0)) := ⟨![3, 128 * (k.val / 4 + 4 * 0) + 32 * (k.val % 4), 0], k0_off21_eq k ⟨0, by decide⟩⟩
instance (k : Fin k0_t2_loop.trips) : ClosedOff (k0_off21 k (BitVec.ofNat 32 4)) := ⟨![3, 128 * (k.val / 4 + 4 * 1) + 32 * (k.val % 4), 0], k0_off21_eq k ⟨1, by decide⟩⟩
instance (k : Fin k0_t2_loop.trips) : ClosedOff (k0_off21 k (BitVec.ofNat 32 8)) := ⟨![3, 128 * (k.val / 4 + 4 * 2) + 32 * (k.val % 4), 0], k0_off21_eq k ⟨2, by decide⟩⟩
instance (k : Fin k0_t2_loop.trips) : ClosedOff (k0_off21 k (BitVec.ofNat 32 12)) := ⟨![3, 128 * (k.val / 4 + 4 * 3) + 32 * (k.val % 4), 0], k0_off21_eq k ⟨3, by decide⟩⟩

/-- What one trip of the second loop holds: what it reads, and the three accumulators. -/
abbrev Trip2 (c : Dev nD) (arg2 : Memref sig .tc .vmem S1x2048x512 .f32) (arg3 : Memref sig .tc .vmem S1x2048x128 .f32)
    (arg4 : Memref sig .tc .vmem S1x2048x128 .f32) (arg9 : Memref sig .tc .vmem S512x128 .bf16) (arg10 : Memref sig .tc .vmem S5x256x128 .bf16)
    (arg6 arg7 arg8 : Memref sig .tc .vmem S4x2048x128 .f32)
    (X2 : BufTy.Contents (Elt F) arg2.view.ty) (X3 : BufTy.Contents (Elt F) arg3.view.ty) (X4 : BufTy.Contents (Elt F) arg4.view.ty)
    (X9 : BufTy.Contents (Elt F) arg9.view.ty) (X10 : BufTy.Contents (Elt F) arg10.view.ty)
    (f6 : BufTy.Contents (Elt F) arg6.view.ty) (f7 : BufTy.Contents (Elt F) arg7.view.ty) (f8 : BufTy.Contents (Elt F) arg8.view.ty) : sProp 𝕄 :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4) ∗ (arg9.view.loc (c : Thread nD τ) ↦[arg9.view.set]{fullShare} X9)
    ∗ (arg10.view.loc (c : Thread nD τ) ↦[arg10.view.set]{fullShare} X10) ∗ (arg6.view.loc (c : Thread nD τ) ↦[arg6.view.set]{fullShare} f6)
    ∗ (arg7.view.loc (c : Thread nD τ) ↦[arg7.view.set]{fullShare} f7) ∗ (arg8.view.loc (c : Thread nD τ) ↦[arg8.view.set]{fullShare} f8))

set_option maxHeartbeats 4000000 in
/-- One trip of the second loop at a symbolic `k`: the pieces that it writes into the three accumulators. -/
@[irreducible] def trip2 (𝒱 : Variants) (c : Dev nD) (bd : Option 𝒱.V) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x512 .bf16) (harg5 : arg5.IsWhole) (arg6 : Memref sig .tc .vmem S4x2048x128 .f32) (harg6 : arg6.IsWhole) (arg7 : Memref sig .tc .vmem S4x2048x128 .f32) (harg7 : arg7.IsWhole) (arg8 : Memref sig .tc .vmem S4x2048x128 .f32) (harg8 : arg8.IsWhole) (arg9 : Memref sig .tc .vmem S512x128 .bf16) (harg9 : arg9.IsWhole) (arg10 : Memref sig .tc .vmem S5x256x128 .bf16) (harg10 : arg10.IsWhole)
    (X2 : BufTy.Contents (Elt F) arg2.view.ty) (X3 : BufTy.Contents (Elt F) arg3.view.ty) (X4 : BufTy.Contents (Elt F) arg4.view.ty)
    (X9 : BufTy.Contents (Elt F) arg9.view.ty) (X10 : BufTy.Contents (Elt F) arg10.view.ty)
    (f6 : BufTy.Contents (Elt F) arg6.view.ty) (f7 : BufTy.Contents (Elt F) arg7.view.ty) (f8 : BufTy.Contents (Elt F) arg8.view.ty)
    (k : Fin k0_t2_loop.trips) :
    Σ' (L6 : List (View.Piece (Elt F) S4x2048x128 .f32)) (L7 : List (View.Piece (Elt F) S4x2048x128 .f32)),
      { L8 : List (View.Piece (Elt F) S4x2048x128 .f32) // ∀ (E : Set ℕ),
      Trip2 (F := F) c arg2 arg3 arg4 arg9 arg10 arg6 arg7 arg8 X2 X3 X4 X9 X10 f6 f7 f8
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 k PUnit.unit)
          (fun _ => Trip2 (F := F) c arg2 arg3 arg4 arg9 arg10 arg6 arg7 arg8 X2 X3 X4 X9 X10
            (arg6.view.writes (Elt F) f6 L6) (arg7.view.writes (Elt F) f7 L7) (arg8.view.writes (Elt F) f8 L8)) } := by
  have hk : k.val < 16 := Nat.lt_of_lt_of_le k.isLt k0_t2_abs.2.1
  refine ⟨?_, ?_, ?_, fun E => ?run⟩
  case run =>
    unfold k0_t2_body
    iintro ⟨H2, H3, H4, H9, H10, H6, H7, H8⟩
    sl_exec
    sl_step
    sl_close

/-- The three accumulators after one trip, from the three before it. -/
def st2Step (𝒱 : Variants) (c : Dev nD) (bd : Option 𝒱.V) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x512 .bf16) (harg5 : arg5.IsWhole) (arg6 : Memref sig .tc .vmem S4x2048x128 .f32) (harg6 : arg6.IsWhole) (arg7 : Memref sig .tc .vmem S4x2048x128 .f32) (harg7 : arg7.IsWhole) (arg8 : Memref sig .tc .vmem S4x2048x128 .f32) (harg8 : arg8.IsWhole) (arg9 : Memref sig .tc .vmem S512x128 .bf16) (harg9 : arg9.IsWhole) (arg10 : Memref sig .tc .vmem S5x256x128 .bf16) (harg10 : arg10.IsWhole)
    (X2 : BufTy.Contents (Elt F) arg2.view.ty) (X3 : BufTy.Contents (Elt F) arg3.view.ty) (X4 : BufTy.Contents (Elt F) arg4.view.ty)
    (X9 : BufTy.Contents (Elt F) arg9.view.ty) (X10 : BufTy.Contents (Elt F) arg10.view.ty) (k : ℕ)
    (s : BufTy.Contents (Elt F) arg6.view.ty × BufTy.Contents (Elt F) arg7.view.ty × BufTy.Contents (Elt F) arg8.view.ty) :
    BufTy.Contents (Elt F) arg6.view.ty × BufTy.Contents (Elt F) arg7.view.ty × BufTy.Contents (Elt F) arg8.view.ty :=
  if h : k < k0_t2_loop.trips then
    (arg6.view.writes (Elt F) s.1 (trip2 (F := F) 𝒱 c bd i arg2 harg2 arg3 harg3 arg4 harg4 arg5 harg5 arg6 harg6 arg7 harg7 arg8 harg8 arg9 harg9 arg10 harg10 X2 X3 X4 X9 X10 s.1 s.2.1 s.2.2 ⟨k, h⟩).1,
     arg7.view.writes (Elt F) s.2.1 (trip2 (F := F) 𝒱 c bd i arg2 harg2 arg3 harg3 arg4 harg4 arg5 harg5 arg6 harg6 arg7 harg7 arg8 harg8 arg9 harg9 arg10 harg10 X2 X3 X4 X9 X10 s.1 s.2.1 s.2.2 ⟨k, h⟩).2.1,
     arg8.view.writes (Elt F) s.2.2 (trip2 (F := F) 𝒱 c bd i arg2 harg2 arg3 harg3 arg4 harg4 arg5 harg5 arg6 harg6 arg7 harg7 arg8 harg8 arg9 harg9 arg10 harg10 X2 X3 X4 X9 X10 s.1 s.2.1 s.2.2 ⟨k, h⟩).2.2.1)
  else s

/-- The three accumulators before trip `k`, from their contents at the loop's entry. -/
def st2 (𝒱 : Variants) (c : Dev nD) (bd : Option 𝒱.V) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x512 .bf16) (harg5 : arg5.IsWhole) (arg6 : Memref sig .tc .vmem S4x2048x128 .f32) (harg6 : arg6.IsWhole) (arg7 : Memref sig .tc .vmem S4x2048x128 .f32) (harg7 : arg7.IsWhole) (arg8 : Memref sig .tc .vmem S4x2048x128 .f32) (harg8 : arg8.IsWhole) (arg9 : Memref sig .tc .vmem S512x128 .bf16) (harg9 : arg9.IsWhole) (arg10 : Memref sig .tc .vmem S5x256x128 .bf16) (harg10 : arg10.IsWhole)
    (X2 : BufTy.Contents (Elt F) arg2.view.ty) (X3 : BufTy.Contents (Elt F) arg3.view.ty) (X4 : BufTy.Contents (Elt F) arg4.view.ty)
    (X9 : BufTy.Contents (Elt F) arg9.view.ty) (X10 : BufTy.Contents (Elt F) arg10.view.ty)
    (G6 : BufTy.Contents (Elt F) arg6.view.ty) (G7 : BufTy.Contents (Elt F) arg7.view.ty) (G8 : BufTy.Contents (Elt F) arg8.view.ty) : ℕ →
    BufTy.Contents (Elt F) arg6.view.ty × BufTy.Contents (Elt F) arg7.view.ty × BufTy.Contents (Elt F) arg8.view.ty
  | 0 => (G6, G7, G8)
  | k + 1 => st2Step (F := F) 𝒱 c bd i arg2 harg2 arg3 harg3 arg4 harg4 arg5 harg5 arg6 harg6 arg7 harg7 arg8 harg8 arg9 harg9 arg10 harg10 X2 X3 X4 X9 X10 k (st2 𝒱 c bd i arg2 harg2 arg3 harg3 arg4 harg4 arg5 harg5 arg6 harg6 arg7 harg7 arg8 harg8 arg9 harg9 arg10 harg10 X2 X3 X4 X9 X10 G6 G7 G8 k)

theorem st2_succ (𝒱 : Variants) (c : Dev nD) (bd : Option 𝒱.V) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x512 .bf16) (harg5 : arg5.IsWhole) (arg6 : Memref sig .tc .vmem S4x2048x128 .f32) (harg6 : arg6.IsWhole) (arg7 : Memref sig .tc .vmem S4x2048x128 .f32) (harg7 : arg7.IsWhole) (arg8 : Memref sig .tc .vmem S4x2048x128 .f32) (harg8 : arg8.IsWhole) (arg9 : Memref sig .tc .vmem S512x128 .bf16) (harg9 : arg9.IsWhole) (arg10 : Memref sig .tc .vmem S5x256x128 .bf16) (harg10 : arg10.IsWhole)
    (X2 : BufTy.Contents (Elt F) arg2.view.ty) (X3 : BufTy.Contents (Elt F) arg3.view.ty) (X4 : BufTy.Contents (Elt F) arg4.view.ty)
    (X9 : BufTy.Contents (Elt F) arg9.view.ty) (X10 : BufTy.Contents (Elt F) arg10.view.ty)
    (G6 : BufTy.Contents (Elt F) arg6.view.ty) (G7 : BufTy.Contents (Elt F) arg7.view.ty) (G8 : BufTy.Contents (Elt F) arg8.view.ty)
    (k : Fin k0_t2_loop.trips) (f6 : BufTy.Contents (Elt F) arg6.view.ty) (f7 : BufTy.Contents (Elt F) arg7.view.ty) (f8 : BufTy.Contents (Elt F) arg8.view.ty)
    (h : (f6, f7, f8) = st2 (F := F) 𝒱 c bd i arg2 harg2 arg3 harg3 arg4 harg4 arg5 harg5 arg6 harg6 arg7 harg7 arg8 harg8 arg9 harg9 arg10 harg10 X2 X3 X4 X9 X10 G6 G7 G8 k.val) :
    (arg6.view.writes (Elt F) f6 (trip2 (F := F) 𝒱 c bd i arg2 harg2 arg3 harg3 arg4 harg4 arg5 harg5 arg6 harg6 arg7 harg7 arg8 harg8 arg9 harg9 arg10 harg10 X2 X3 X4 X9 X10 f6 f7 f8 k).1,
     arg7.view.writes (Elt F) f7 (trip2 (F := F) 𝒱 c bd i arg2 harg2 arg3 harg3 arg4 harg4 arg5 harg5 arg6 harg6 arg7 harg7 arg8 harg8 arg9 harg9 arg10 harg10 X2 X3 X4 X9 X10 f6 f7 f8 k).2.1,
     arg8.view.writes (Elt F) f8 (trip2 (F := F) 𝒱 c bd i arg2 harg2 arg3 harg3 arg4 harg4 arg5 harg5 arg6 harg6 arg7 harg7 arg8 harg8 arg9 harg9 arg10 harg10 X2 X3 X4 X9 X10 f6 f7 f8 k).2.2.1)
      = st2 (F := F) 𝒱 c bd i arg2 harg2 arg3 harg3 arg4 harg4 arg5 harg5 arg6 harg6 arg7 harg7 arg8 harg8 arg9 harg9 arg10 harg10 X2 X3 X4 X9 X10 G6 G7 G8 (k.val + 1) := by
  rw [st2.eq_2, ← h]; unfold st2Step; rw [dif_pos k.isLt]

set_option warn.classDefReducibility false in
/-- The second loop by its invariant: before trip `k` the three accumulators are `st2 … k`. -/
@[sl_loop] def loopInv2 (𝒱 : Variants) (c : Dev nD) (bd : Option 𝒱.V) (E : Set ℕ) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x512 .bf16) (harg5 : arg5.IsWhole) (arg6 : Memref sig .tc .vmem S4x2048x128 .f32) (harg6 : arg6.IsWhole) (arg7 : Memref sig .tc .vmem S4x2048x128 .f32) (harg7 : arg7.IsWhole) (arg8 : Memref sig .tc .vmem S4x2048x128 .f32) (harg8 : arg8.IsWhole) (arg9 : Memref sig .tc .vmem S512x128 .bf16) (harg9 : arg9.IsWhole) (arg10 : Memref sig .tc .vmem S5x256x128 .bf16) (harg10 : arg10.IsWhole)
    (X2 : BufTy.Contents (Elt F) arg2.view.ty) (X3 : BufTy.Contents (Elt F) arg3.view.ty) (X4 : BufTy.Contents (Elt F) arg4.view.ty)
    (X9 : BufTy.Contents (Elt F) arg9.view.ty) (X10 : BufTy.Contents (Elt F) arg10.view.ty)
    (G6 : BufTy.Contents (Elt F) arg6.view.ty) (G7 : BufTy.Contents (Elt F) arg7.view.ty) (G8 : BufTy.Contents (Elt F) arg8.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 where
  inv k _ := iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4) ∗ (arg9.view.loc (c : Thread nD τ) ↦[arg9.view.set]{fullShare} X9)
    ∗ (arg10.view.loc (c : Thread nD τ) ↦[arg10.view.set]{fullShare} X10)
    ∗ (∃ f6, (arg6.view.loc (c : Thread nD τ) ↦[arg6.view.set]{fullShare} f6) ∗ ⌜f6 = (st2 (F := F) 𝒱 c bd i arg2 harg2 arg3 harg3 arg4 harg4 arg5 harg5 arg6 harg6 arg7 harg7 arg8 harg8 arg9 harg9 arg10 harg10 X2 X3 X4 X9 X10 G6 G7 G8 k).1⌝)
    ∗ (∃ f7, (arg7.view.loc (c : Thread nD τ) ↦[arg7.view.set]{fullShare} f7) ∗ ⌜f7 = (st2 (F := F) 𝒱 c bd i arg2 harg2 arg3 harg3 arg4 harg4 arg5 harg5 arg6 harg6 arg7 harg7 arg8 harg8 arg9 harg9 arg10 harg10 X2 X3 X4 X9 X10 G6 G7 G8 k).2.1⌝)
    ∗ (∃ f8, (arg8.view.loc (c : Thread nD τ) ↦[arg8.view.set]{fullShare} f8) ∗ ⌜f8 = (st2 (F := F) 𝒱 c bd i arg2 harg2 arg3 harg3 arg4 harg4 arg5 harg5 arg6 harg6 arg7 harg7 arg8 harg8 arg9 harg9 arg10 harg10 X2 X3 X4 X9 X10 G6 G7 G8 k).2.2⌝))
  step k acc := by
    iintro ⟨H2, H3, H4, H9, H10, ⟨%f6, H6, %h6⟩, ⟨%f7, H7, %h7⟩, ⟨%f8, H8, %h8⟩⟩
    iapply (wp_wand_r Idealize.ShloMosaic.frame (wpE (defs₀ (F := F)) 𝒱 (c : Thread nD τ) bd) E)
    isplitl [H2 H3 H4 H9 H10 H6 H7 H8]
    · iapply ((trip2 (F := F) 𝒱 c bd i arg2 harg2 arg3 harg3 arg4 harg4 arg5 harg5 arg6 harg6 arg7 harg7 arg8 harg8 arg9 harg9 arg10 harg10 X2 X3 X4 X9 X10 f6 f7 f8 k).2.2.2 E)
      isplitl [H2]; · iexact H2
      isplitl [H3]; · iexact H3
      isplitl [H4]; · iexact H4
      isplitl [H9]; · iexact H9
      isplitl [H10]; · iexact H10
      isplitl [H6]; · iexact H6
      isplitl [H7]; · iexact H7
      iexact H8
    · iintro %_ ⟨H2, H3, H4, H9, H10, H6, H7, H8⟩
      isplitl [H2]; · iexact H2
      isplitl [H3]; · iexact H3
      isplitl [H4]; · iexact H4
      isplitl [H9]; · iexact H9
      isplitl [H10]; · iexact H10
      have hs := st2_succ (F := F) 𝒱 c bd i arg2 harg2 arg3 harg3 arg4 harg4 arg5 harg5 arg6 harg6 arg7 harg7 arg8 harg8 arg9 harg9 arg10 harg10 X2 X3 X4 X9 X10 G6 G7 G8 k f6 f7 f8 (by rw [h6, h7, h8])
      isplitl [H6]
      · iexists _; isplitl [H6]; · iexact H6
        ipureintro; exact congrArg Prod.fst hs
      isplitl [H7]
      · iexists _; isplitl [H7]; · iexact H7
        ipureintro; exact congrArg (fun s => s.2.1) hs
      iexists _; isplitl [H8]; · iexact H8
      ipureintro; exact congrArg (fun s => s.2.2) hs

/-- What one trip of the third loop holds: the three accumulators, which it reads, and the result's block. -/
abbrev Trip3 (c : Dev nD) (arg2 : Memref sig .tc .vmem S1x2048x512 .f32) (arg3 : Memref sig .tc .vmem S1x2048x128 .f32)
    (arg4 : Memref sig .tc .vmem S1x2048x128 .f32) (arg9 : Memref sig .tc .vmem S512x128 .bf16) (arg10 : Memref sig .tc .vmem S5x256x128 .bf16) (arg5 : Memref sig .tc .vmem S1x2048x512 .bf16) (arg6 arg7 arg8 : Memref sig .tc .vmem S4x2048x128 .f32)
    (X2 : BufTy.Contents (Elt F) arg2.view.ty) (X3 : BufTy.Contents (Elt F) arg3.view.ty) (X4 : BufTy.Contents (Elt F) arg4.view.ty)
    (X9 : BufTy.Contents (Elt F) arg9.view.ty) (X10 : BufTy.Contents (Elt F) arg10.view.ty)
    (X6 : BufTy.Contents (Elt F) arg6.view.ty) (X7 : BufTy.Contents (Elt F) arg7.view.ty) (X8 : BufTy.Contents (Elt F) arg8.view.ty)
    (f5 : BufTy.Contents (Elt F) arg5.view.ty) : sProp 𝕄 :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4) ∗ (arg9.view.loc (c : Thread nD τ) ↦[arg9.view.set]{fullShare} X9)
    ∗ (arg10.view.loc (c : Thread nD τ) ↦[arg10.view.set]{fullShare} X10) ∗ (arg6.view.loc (c : Thread nD τ) ↦[arg6.view.set]{fullShare} X6) ∗ (arg7.view.loc (c : Thread nD τ) ↦[arg7.view.set]{fullShare} X7)
    ∗ (arg8.view.loc (c : Thread nD τ) ↦[arg8.view.set]{fullShare} X8)
    ∗ (arg5.view.loc (c : Thread nD τ) ↦[arg5.view.set]{fullShare} f5))

set_option maxHeartbeats 4000000 in
/-- One trip of the third loop at a symbolic `k`: the pieces that it writes into the result's block. -/
@[irreducible] def trip3 (𝒱 : Variants) (c : Dev nD) (bd : Option 𝒱.V) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x512 .bf16) (harg5 : arg5.IsWhole) (arg6 : Memref sig .tc .vmem S4x2048x128 .f32) (harg6 : arg6.IsWhole) (arg7 : Memref sig .tc .vmem S4x2048x128 .f32) (harg7 : arg7.IsWhole) (arg8 : Memref sig .tc .vmem S4x2048x128 .f32) (harg8 : arg8.IsWhole) (arg9 : Memref sig .tc .vmem S512x128 .bf16) (harg9 : arg9.IsWhole) (arg10 : Memref sig .tc .vmem S5x256x128 .bf16) (harg10 : arg10.IsWhole)
    (X2 : BufTy.Contents (Elt F) arg2.view.ty) (X3 : BufTy.Contents (Elt F) arg3.view.ty) (X4 : BufTy.Contents (Elt F) arg4.view.ty)
    (X9 : BufTy.Contents (Elt F) arg9.view.ty) (X10 : BufTy.Contents (Elt F) arg10.view.ty)
    (X6 : BufTy.Contents (Elt F) arg6.view.ty) (X7 : BufTy.Contents (Elt F) arg7.view.ty) (X8 : BufTy.Contents (Elt F) arg8.view.ty)
    (k : Fin k0_t3_loop.trips) :
    { L5 : List (View.Piece (Elt F) S1x2048x512 .bf16) // ∀ (E : Set ℕ) (f5 : BufTy.Contents (Elt F) arg5.view.ty),
      Trip3 (F := F) c arg2 arg3 arg4 arg9 arg10 arg5 arg6 arg7 arg8 X2 X3 X4 X9 X10 X6 X7 X8 f5
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 k PUnit.unit)
          (fun _ => Trip3 (F := F) c arg2 arg3 arg4 arg9 arg10 arg5 arg6 arg7 arg8 X2 X3 X4 X9 X10 X6 X7 X8 (arg5.view.writes (Elt F) f5 L5)) } := by
  have hk : k.val < 16 := Nat.lt_of_lt_of_le k.isLt k0_t3_abs.2.1
  refine ⟨?_, fun E f5 => ?run⟩
  case run =>
    unfold k0_t3_body
    iintro ⟨H2, H3, H4, H9, H10, H6, H7, H8, H5⟩
    sl_exec
    sl_step
    sl_close

/-- The pieces of one trip of the third loop put before those of the earlier trips. -/
def pb3Step (𝒱 : Variants) (c : Dev nD) (bd : Option 𝒱.V) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x512 .bf16) (harg5 : arg5.IsWhole) (arg6 : Memref sig .tc .vmem S4x2048x128 .f32) (harg6 : arg6.IsWhole) (arg7 : Memref sig .tc .vmem S4x2048x128 .f32) (harg7 : arg7.IsWhole) (arg8 : Memref sig .tc .vmem S4x2048x128 .f32) (harg8 : arg8.IsWhole) (arg9 : Memref sig .tc .vmem S512x128 .bf16) (harg9 : arg9.IsWhole) (arg10 : Memref sig .tc .vmem S5x256x128 .bf16) (harg10 : arg10.IsWhole)
    (X2 : BufTy.Contents (Elt F) arg2.view.ty) (X3 : BufTy.Contents (Elt F) arg3.view.ty) (X4 : BufTy.Contents (Elt F) arg4.view.ty)
    (X9 : BufTy.Contents (Elt F) arg9.view.ty) (X10 : BufTy.Contents (Elt F) arg10.view.ty)
    (X6 : BufTy.Contents (Elt F) arg6.view.ty) (X7 : BufTy.Contents (Elt F) arg7.view.ty) (X8 : BufTy.Contents (Elt F) arg8.view.ty) (k : ℕ) (L : List (View.Piece (Elt F) S1x2048x512 .bf16)) :
    List (View.Piece (Elt F) S1x2048x512 .bf16) :=
  if h : k < k0_t3_loop.trips then (trip3 (F := F) 𝒱 c bd i arg2 harg2 arg3 harg3 arg4 harg4 arg5 harg5 arg6 harg6 arg7 harg7 arg8 harg8 arg9 harg9 arg10 harg10 X2 X3 X4 X9 X10 X6 X7 X8 ⟨k, h⟩).1 ++ L else L

/-- The pieces of the third loop's trips before `k`, the last first. -/
def pb3 (𝒱 : Variants) (c : Dev nD) (bd : Option 𝒱.V) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x512 .bf16) (harg5 : arg5.IsWhole) (arg6 : Memref sig .tc .vmem S4x2048x128 .f32) (harg6 : arg6.IsWhole) (arg7 : Memref sig .tc .vmem S4x2048x128 .f32) (harg7 : arg7.IsWhole) (arg8 : Memref sig .tc .vmem S4x2048x128 .f32) (harg8 : arg8.IsWhole) (arg9 : Memref sig .tc .vmem S512x128 .bf16) (harg9 : arg9.IsWhole) (arg10 : Memref sig .tc .vmem S5x256x128 .bf16) (harg10 : arg10.IsWhole)
    (X2 : BufTy.Contents (Elt F) arg2.view.ty) (X3 : BufTy.Contents (Elt F) arg3.view.ty) (X4 : BufTy.Contents (Elt F) arg4.view.ty)
    (X9 : BufTy.Contents (Elt F) arg9.view.ty) (X10 : BufTy.Contents (Elt F) arg10.view.ty)
    (X6 : BufTy.Contents (Elt F) arg6.view.ty) (X7 : BufTy.Contents (Elt F) arg7.view.ty) (X8 : BufTy.Contents (Elt F) arg8.view.ty) : ℕ → List (View.Piece (Elt F) S1x2048x512 .bf16)
  | 0 => []
  | k + 1 => pb3Step (F := F) 𝒱 c bd i arg2 harg2 arg3 harg3 arg4 harg4 arg5 harg5 arg6 harg6 arg7 harg7 arg8 harg8 arg9 harg9 arg10 harg10 X2 X3 X4 X9 X10 X6 X7 X8 k (pb3 𝒱 c bd i arg2 harg2 arg3 harg3 arg4 harg4 arg5 harg5 arg6 harg6 arg7 harg7 arg8 harg8 arg9 harg9 arg10 harg10 X2 X3 X4 X9 X10 X6 X7 X8 k)

theorem pb3_succ (𝒱 : Variants) (c : Dev nD) (bd : Option 𝒱.V) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x512 .bf16) (harg5 : arg5.IsWhole) (arg6 : Memref sig .tc .vmem S4x2048x128 .f32) (harg6 : arg6.IsWhole) (arg7 : Memref sig .tc .vmem S4x2048x128 .f32) (harg7 : arg7.IsWhole) (arg8 : Memref sig .tc .vmem S4x2048x128 .f32) (harg8 : arg8.IsWhole) (arg9 : Memref sig .tc .vmem S512x128 .bf16) (harg9 : arg9.IsWhole) (arg10 : Memref sig .tc .vmem S5x256x128 .bf16) (harg10 : arg10.IsWhole)
    (X2 : BufTy.Contents (Elt F) arg2.view.ty) (X3 : BufTy.Contents (Elt F) arg3.view.ty) (X4 : BufTy.Contents (Elt F) arg4.view.ty)
    (X9 : BufTy.Contents (Elt F) arg9.view.ty) (X10 : BufTy.Contents (Elt F) arg10.view.ty)
    (X6 : BufTy.Contents (Elt F) arg6.view.ty) (X7 : BufTy.Contents (Elt F) arg7.view.ty) (X8 : BufTy.Contents (Elt F) arg8.view.ty) (k : Fin k0_t3_loop.trips) :
    pb3 (F := F) 𝒱 c bd i arg2 harg2 arg3 harg3 arg4 harg4 arg5 harg5 arg6 harg6 arg7 harg7 arg8 harg8 arg9 harg9 arg10 harg10 X2 X3 X4 X9 X10 X6 X7 X8 (k.val + 1)
      = (trip3 (F := F) 𝒱 c bd i arg2 harg2 arg3 harg3 arg4 harg4 arg5 harg5 arg6 harg6 arg7 harg7 arg8 harg8 arg9 harg9 arg10 harg10 X2 X3 X4 X9 X10 X6 X7 X8 k).1 ++ pb3 (F := F) 𝒱 c bd i arg2 harg2 arg3 harg3 arg4 harg4 arg5 harg5 arg6 harg6 arg7 harg7 arg8 harg8 arg9 harg9 arg10 harg10 X2 X3 X4 X9 X10 X6 X7 X8 k.val := by
  rw [pb3.eq_2]; unfold pb3Step; exact dif_pos k.isLt

set_option warn.classDefReducibility false in
/-- The third loop by its invariant: before trip `k` the result's block holds the pieces `pb3 … k` over what it held at the entry. -/
@[sl_loop] def loopInv3 (𝒱 : Variants) (c : Dev nD) (bd : Option 𝒱.V) (E : Set ℕ) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x512 .bf16) (harg5 : arg5.IsWhole) (arg6 : Memref sig .tc .vmem S4x2048x128 .f32) (harg6 : arg6.IsWhole) (arg7 : Memref sig .tc .vmem S4x2048x128 .f32) (harg7 : arg7.IsWhole) (arg8 : Memref sig .tc .vmem S4x2048x128 .f32) (harg8 : arg8.IsWhole) (arg9 : Memref sig .tc .vmem S512x128 .bf16) (harg9 : arg9.IsWhole) (arg10 : Memref sig .tc .vmem S5x256x128 .bf16) (harg10 : arg10.IsWhole)
    (X2 : BufTy.Contents (Elt F) arg2.view.ty) (X3 : BufTy.Contents (Elt F) arg3.view.ty) (X4 : BufTy.Contents (Elt F) arg4.view.ty)
    (X9 : BufTy.Contents (Elt F) arg9.view.ty) (X10 : BufTy.Contents (Elt F) arg10.view.ty)
    (X6 : BufTy.Contents (Elt F) arg6.view.ty) (X7 : BufTy.Contents (Elt F) arg7.view.ty) (X8 : BufTy.Contents (Elt F) arg8.view.ty)
    (G5 : BufTy.Contents (Elt F) arg5.view.ty) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 where
  inv k _ := iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4) ∗ (arg9.view.loc (c : Thread nD τ) ↦[arg9.view.set]{fullShare} X9)
    ∗ (arg10.view.loc (c : Thread nD τ) ↦[arg10.view.set]{fullShare} X10) ∗ (arg6.view.loc (c : Thread nD τ) ↦[arg6.view.set]{fullShare} X6) ∗ (arg7.view.loc (c : Thread nD τ) ↦[arg7.view.set]{fullShare} X7)
    ∗ (arg8.view.loc (c : Thread nD τ) ↦[arg8.view.set]{fullShare} X8)
    ∗ (∃ f, (arg5.view.loc (c : Thread nD τ) ↦[arg5.view.set]{fullShare} f)
      ∗ ⌜f = arg5.view.writes (Elt F) G5 (pb3 (F := F) 𝒱 c bd i arg2 harg2 arg3 harg3 arg4 harg4 arg5 harg5 arg6 harg6 arg7 harg7 arg8 harg8 arg9 harg9 arg10 harg10 X2 X3 X4 X9 X10 X6 X7 X8 k)⌝))
  step k acc := by
    iintro ⟨H2, H3, H4, H9, H10, H6, H7, H8, ⟨%f5, H5, %hf⟩⟩
    iapply (wp_wand_r Idealize.ShloMosaic.frame (wpE (defs₀ (F := F)) 𝒱 (c : Thread nD τ) bd) E)
    isplitl [H2 H3 H4 H9 H10 H6 H7 H8 H5]
    · iapply ((trip3 (F := F) 𝒱 c bd i arg2 harg2 arg3 harg3 arg4 harg4 arg5 harg5 arg6 harg6 arg7 harg7 arg8 harg8 arg9 harg9 arg10 harg10 X2 X3 X4 X9 X10 X6 X7 X8 k).2 E f5)
      isplitl [H2]; · iexact H2
      isplitl [H3]; · iexact H3
      isplitl [H4]; · iexact H4
      isplitl [H9]; · iexact H9
      isplitl [H10]; · iexact H10
      isplitl [H6]; · iexact H6
      isplitl [H7]; · iexact H7
      isplitl [H8]; · iexact H8
      iexact H5
    · iintro %_ ⟨H2, H3, H4, H9, H10, H6, H7, H8, H5⟩
      isplitl [H2]; · iexact H2
      isplitl [H3]; · iexact H3
      isplitl [H4]; · iexact H4
      isplitl [H9]; · iexact H9
      isplitl [H10]; · iexact H10
      isplitl [H6]; · iexact H6
      isplitl [H7]; · iexact H7
      isplitl [H8]; · iexact H8
      rw [pb3_succ]
      iexists _; isplitl [H5]; · iexact H5
      ipureintro; rw [hf, ← View.writes_append]

end Cert.KernelIdeal.Hand

end
-- ==== Proof.BodyIdeal.lean ====
module

public import proofs.«01_k».proof.Proof.RunIdeal
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

abbrev 𝒱₀ : Variants := Variants.none

set_option maxHeartbeats 4000000 in
/-- The kernel's body on whole memrefs at any contents: the pieces that it writes into the result's block. -/
def kernelRun (c : Dev nD) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x512 .bf16) (harg5 : arg5.IsWhole) (arg6 : Memref sig .tc .vmem S4x2048x128 .f32) (harg6 : arg6.IsWhole) (arg7 : Memref sig .tc .vmem S4x2048x128 .f32) (harg7 : arg7.IsWhole) (arg8 : Memref sig .tc .vmem S4x2048x128 .f32) (harg8 : arg8.IsWhole) (arg9 : Memref sig .tc .vmem S512x128 .bf16) (harg9 : arg9.IsWhole) (arg10 : Memref sig .tc .vmem S5x256x128 .bf16) (harg10 : arg10.IsWhole)
    (x2 : Vec F S1x2048x512 .f32) (x3 : Vec F S1x2048x128 .f32) (x4 : Vec F S1x2048x128 .f32)
    (G6 : BufTy.Contents (Elt F) arg6.view.ty) (G7 : BufTy.Contents (Elt F) arg7.view.ty) (G8 : BufTy.Contents (Elt F) arg8.view.ty)
    (G9 : BufTy.Contents (Elt F) arg9.view.ty) (G10 : BufTy.Contents (Elt F) arg10.view.ty) :
    { L5 : List (View.Piece (Elt F) S1x2048x512 .bf16) // ∀ (E : Set ℕ) (f5 : BufTy.Contents (Elt F) arg5.view.ty) (K : PUnit → sProp 𝕄),
      (iprop(owns (c : Thread nD τ) arg2 fullShare x2 ∗ owns (c : Thread nD τ) arg3 fullShare x3 ∗ owns (c : Thread nD τ) arg4 fullShare x4
        ∗ (arg5.view.loc (c : Thread nD τ) ↦[arg5.view.set]{fullShare} f5)
        ∗ (arg6.view.loc (c : Thread nD τ) ↦[arg6.view.set]{fullShare} G6)
        ∗ (arg7.view.loc (c : Thread nD τ) ↦[arg7.view.set]{fullShare} G7)
        ∗ (arg8.view.loc (c : Thread nD τ) ↦[arg8.view.set]{fullShare} G8)
        ∗ (arg9.view.loc (c : Thread nD τ) ↦[arg9.view.set]{fullShare} G9)
        ∗ (arg10.view.loc (c : Thread nD τ) ↦[arg10.view.set]{fullShare} G10)
        ∗ (iprop(owns (c : Thread nD τ) arg2 fullShare x2 ∗ owns (c : Thread nD τ) arg3 fullShare x3 ∗ owns (c : Thread nD τ) arg4 fullShare x4
        ∗ (arg5.view.loc (c : Thread nD τ) ↦[arg5.view.set]{fullShare} arg5.view.writes (Elt F) f5 L5)
        ∗ (∃ f, arg6.view.loc (c : Thread nD τ) ↦[arg6.view.set]{fullShare} f)
        ∗ (∃ f, arg7.view.loc (c : Thread nD τ) ↦[arg7.view.set]{fullShare} f)
        ∗ (∃ f, arg8.view.loc (c : Thread nD τ) ↦[arg8.view.set]{fullShare} f)
        ∗ (∃ f, arg9.view.loc (c : Thread nD τ) ↦[arg9.view.set]{fullShare} f)
        ∗ (∃ f, arg10.view.loc (c : Thread nD τ) ↦[arg10.view.set]{fullShare} f)) -∗ K ⟨⟩)) : sProp 𝕄)
      ⊢ wp frame (wpE (defs₀ (F := F)) 𝒱₀ c none) E (cc0_attn (F := F) i arg2 harg2 arg3 harg3 arg4 harg4 arg5 harg5 arg6 harg6 arg7 harg7 arg8 harg8 arg9 harg9 arg10 harg10) K } := by
  refine ⟨?_, fun E f5 K => ?run⟩
  case run =>
    unfold owns
    iintro ⟨⟨%f2, %hf2, H2⟩, ⟨%f3, %hf3, H3⟩, ⟨%f4, %hf4, H4⟩, H5, H6, H7, H8, H9, H10, Hk⟩
    obtain rfl := harg2.eq_unread hf2; obtain rfl := harg3.eq_unread hf3; obtain rfl := harg4.eq_unread hf4
    sl_unfold [cc0_attn]
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexact H5
    isplitl [H6]
    · iexists _; iexact H6
    isplitl [H7]
    · iexists _; iexact H7
    isplitl [H8]
    · iexists _; iexact H8
    isplitl [H9]
    · iexists _; iexact H9
    iexists _; iexact H10

end Cert.KernelIdeal.Hand

end
-- ==== Proof.FrameIdeal.lean ====
module

public import proofs.«01_k».proof.Proof.BodyIdeal

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

open Idealize.ShloMosaic.Pipeline (Dat Cfg Window BodyObligation BodyObligationLoose cellOf ΦA RDat)

/-- The proof data: the inputs at their blocks, the result's block at `out`; each input's share by its array, for
    the keys and the values are two windows of one array. -/
def dats (out : (c : Dev nD) → (t : Fin cfg0.N) → Vec F S1x2048x512 .bf16) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out c t
  Φ _ := Pipeline.ΦA spec0 c
  q w := Pipeline.shareOf spec0 w
  owed _ := 0

variable (out : (c : Dev nD) → (t : Fin cfg0.N) → Vec F S1x2048x512 .bf16)

theorem A_eq (c : Dev nD) (w : Fin cfg0.W) : (dats m out 0 c).A w = V m c (Pipeline.arrRef spec0 w) := rfl
theorem after0_0 (c : Dev nD) (t : Fin cfg0.N) : (dats m out 0 c).after 0 t = iblk m c 0 t := by dsimp only [dats]
theorem after0_1 (c : Dev nD) (t : Fin cfg0.N) : (dats m out 0 c).after 1 t = iblk m c 1 t := by dsimp only [dats]
theorem after0_2 (c : Dev nD) (t : Fin cfg0.N) : (dats m out 0 c).after 2 t = iblk m c 2 t := by dsimp only [dats]
theorem after0_3 (c : Dev nD) (t : Fin cfg0.N) : (dats m out 0 c).after 3 t = out c t := by dsimp only [dats]
theorem before0_0 (c : Dev nD) (t : Fin cfg0.N) (d) : (dats m out 0 c).before 0 t d = iblk m c 0 t :=
  before0_0_of m (dats m out 0 c) (A_eq m out c 0) (after0_0 m out c) t d
theorem before0_1 (c : Dev nD) (t : Fin cfg0.N) (d) : (dats m out 0 c).before 1 t d = iblk m c 1 t :=
  before0_1_of m (dats m out 0 c) (A_eq m out c 1) (after0_1 m out c) t d
theorem before0_2 (c : Dev nD) (t : Fin cfg0.N) (d) : (dats m out 0 c).before 2 t d = iblk m c 2 t :=
  before0_2_of m (dats m out 0 c) (A_eq m out c 2) (after0_2 m out c) t d

/-- The window whose contents the frame does not state: the result's. -/
def fgt : Fin cfg0.W → Bool := fun w => w = 3

/-- A whole buffer held as a memref's cells. -/
theorem loc_whole (c : Dev nD) (b : Ref sig .tc) (f : Buf (Elt F) ((c.tc : Thread nD τ).loc b)) :
    ((Memref.whole b).view.loc (c : Thread nD τ) ↦[(Memref.whole b).view.set]{fullShare} f : sProp 𝕄) = ((c.tc : Thread nD τ).loc b ↦{fullShare} f) := by
  rw [show (Memref.whole b).view.set = Finset.univ from View.set_whole b]

theorem body_loose (c : Dev nD) : BodyObligationLoose (dats (F := F) m out 0 c) (defs₀ (F := F)) 𝒱₀ () Set.univ fgt := fun t => by
  rw [bigSep_W0, bigSep_W0]
  sl_whnfR [defs₀, Defs.onTc]
  have hf0 : fgt 0 = false := rfl
  have hf1 : fgt 1 = false := rfl
  have hf2 : fgt 2 = false := rfl
  have hf3 : fgt 3 = true := rfl
  simp only [before0_0, before0_1, before0_2, hf0, hf1, hf2, hf3]
  rw [show (dats m out 0 c).Φ t.succ = (dats m out 0 c).Φ t.castSucc from rfl,
    show (dats m out 0 c).owesAt () t.succ = (dats m out 0 c).owesAt () t.castSucc from rfl, after0_0, after0_1, after0_2]
  rw [show (dats m out 0 c).Φ t.castSucc = Pipeline.ΦA spec0 c from rfl]
  unfold Pipeline.ΦA
  rw [scopedRest0_eq]
  unfold owns
  iintro ⟨⟨⟨⟨%g6, H6⟩, ⟨%g7, H7⟩, ⟨%g8, H8⟩, ⟨%g9, H9⟩, ⟨%g10, H10⟩⟩, Hp⟩, Ho, ⟨%d0, H0⟩, ⟨%d1, H1⟩, ⟨%d2, H2⟩, ⟨%d3, %f3, -, H3⟩⟩
  simp only [← loc_whole]
  iapply ((kernelRun c (grid0.coords t) (stage0_0 (cfg0.slots t 0)) _ (stage0_1 (cfg0.slots t 1)) _ (stage0_2 (cfg0.slots t 2)) _ (stage0_3 (cfg0.slots t 3)) _ (Memref.whole cc0_scratch0) _
    (Memref.whole cc0_scratch1) _ (Memref.whole cc0_scratch2) _ (Memref.whole cc0_scratch3) _ (Memref.whole cc0_scratch4) _ (iblk m c 0 t) (iblk m c 1 t) (iblk m c 2 t) g6 g7 g8 g9 g10).2 Set.univ f3 _)
  isplitl [H0]; · unfold owns; iexact H0
  isplitl [H1]; · unfold owns; iexact H1
  isplitl [H2]; · unfold owns; iexact H2
  isplitl [H3]; · iexact H3
  isplitl [H6]; · iexact H6
  isplitl [H7]; · iexact H7
  isplitl [H8]; · iexact H8
  isplitl [H9]; · iexact H9
  isplitl [H10]; · iexact H10
  iintro ⟨H0, H1, H2, H3, H6, H7, H8, H9, H10⟩
  unfold owns
  isplitl [H6 H7 H8 H9 H10 Hp]
  · isplitr [Hp]
    · isplitl [H6]; · iexact H6
      isplitl [H7]; · iexact H7
      isplitl [H8]; · iexact H8
      isplitl [H9]; · iexact H9
      iexact H10
    · iexact Hp
  isplitl [Ho]; · iexact Ho
  isplitl [H0]; · iexact H0
  isplitl [H1]; · iexact H1
  isplitl [H2]; · iexact H2
  iexists _
  iexists _; isplitr; swap; · iexact H3
  ipureintro; rfl

/-- The buffers that the host operations after the kernel write. -/
def Tset : Finset (Ref sig .tc) := {main_v13, main_v14, main_v15, main_v16}

theorem hT : ∀ ops ∈ ([hostOps1] : List (List (HloOp τ sig (Elt F)))), ∀ op ∈ ops, ∀ b : Ref sig .tc, Proc.devRef .tc b ∈ op.writes → b ∈ Tset := by
  intro ops hops op hop b hb
  simp only [List.mem_cons, List.mem_nil_iff, or_false] at hops
  subst hops
  simp only [hostOps1, List.mem_cons, List.mem_nil_iff, or_false] at hop
  rcases hop with rfl | rfl | rfl | rfl <;>
    simp only [StableHlo.reshape_writes, StableHlo.unary_writes, Finset.mem_singleton] at hb <;>
    (have := Proc.devRef_injective _ hb; subst this; decide)

set_option backward.isDefEq.respectTransparency.types false in
/-- Every fair execution ends with every argument unchanged and every counter at zero. -/
theorem frame_run (out : (c : Dev nD) → (t : Fin cfg0.N) → Vec F S1x2048x512 .bf16) : θ_run defs (onTc (τ := τ) (main (F := F))) (s₀ m ρ)
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  Pipeline.θ_run_frame_around_T_forget_shared cfgs (dats m out) (0 : Fin 1) launch₀0 defs₀ 𝒱₀ fgt Tset m ρ main
    (hbody := fun c => body_loose m _ c) (hq := fun _ _ _ => rfl) (howed := fun _ _ => rfl) (V₀ := V0 m) (opss := [hostOps1])
    (hsub := sfx_sub) (hfresh := sfx_fresh) (hkeep := sfx_keeps) (hT := hT) (hmain := hmain m 𝒱₀) (hA := fun _ _ => rfl) (hΦ := fun _ _ => rfl)
    (Q' := _) (hQ' := fun r h => ⟨fun c => ⟨
      ((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c)⟩, h.2⟩)

end Cert.KernelIdeal.Hand

end
-- ==== Proof.MlpShared.lean ====
module

public import Mathlib.Algebra.BigOperators.Fin
public import Idealize.ShloMosaic.Lib.Pointwise

/-! The arithmetic both feed-forward calls share: the normalised row, what one hidden unit adds, and the hidden units' sum
    taken 512 at a time. -/

@[expose] public section

noncomputable section

namespace Cert.Proof.Mlp

open Idealize.ShloMosaic

/-- A row of the stream divided by its root mean square and scaled by the gains. -/
def rms (x g : Fin 2048 → EReal) (k : Fin 2048) : EReal :=
  x k * Ideal.rsqrt (Ideal.div (∑ d, x d * x d) (Ideal.ofBits FTy.f32 1157627904#32) + Ideal.ofBits FTy.f32 897988541#32) * g k

/-- What hidden unit `j` adds to column `k`, for a normalised row `y`. -/
def unit (y : Fin 2048 → EReal) (w1 : Fin 2048 → Fin 8192 → EReal) (w2 : Fin 8192 → Fin 2048 → EReal) (k : Fin 2048) (j : Fin 8192) : EReal :=
  max (∑ d, y d * w1 d j) 0 * max (∑ d, y d * w1 d j) 0 * w2 j k

/-- `unit` at a natural number, zero past the last hidden unit. -/
def unitN (y : Fin 2048 → EReal) (w1 : Fin 2048 → Fin 8192 → EReal) (w2 : Fin 8192 → Fin 2048 → EReal) (k : Fin 2048) (j : ℕ) : EReal :=
  if h : j < 8192 then unit y w1 w2 k ⟨j, h⟩ else 0

theorem sum_blocks (f : ℕ → EReal) (n : ℕ) : ∑ s ∈ Finset.range n, ∑ j : Fin 512, f (512 * s + j.val) = ∑ j ∈ Finset.range (512 * n), f j := by
  induction n with
  | zero => simp
  | succ n ih => rw [Finset.sum_range_succ, ih, Nat.mul_succ, Finset.sum_range_add, Finset.sum_range (n := 512)]

theorem sum_units (y : Fin 2048 → EReal) (w1 : Fin 2048 → Fin 8192 → EReal) (w2 : Fin 8192 → Fin 2048 → EReal) (k : Fin 2048) :
    ∑ s ∈ Finset.range 16, ∑ j : Fin 512, unitN y w1 w2 k (512 * s + j.val) = ∑ j : Fin 8192, unit y w1 w2 k j := by
  rw [sum_blocks, Finset.sum_range]
  exact Finset.sum_congr rfl fun j _ => dif_pos j.isLt

end Cert.Proof.Mlp
end
-- ==== Proof.MlpLast.lean ====
module

public import proofs.«01_k».proof.Proof.Gen.MlpLastIdeal.Value
public import proofs.«01_k».proof.Proof.Gen.MlpLastReferenceIdeal.Run
public import proofs.«01_k».proof.Proof.Gen.MlpLastReferenceIdeal.Read
public import proofs.«01_k».proof.Proof.MlpShared
public import Idealize.ShloMosaic.Lib.Pointwise
public import Idealize.ShloMosaic.Lib.Pipeline.ValueKit

/-! The feed-forward layer with the last normalisation: at every index the kernel's result, accumulated over sixteen blocks
    of 512 hidden units and normalised at the sixteenth, is the reference's. -/

@[expose] public section

set_option maxRecDepth 16384

noncomputable section

namespace Cert.Proof.MlpLast

open Cert.Proof.Mlp Cert.MlpLastIdeal Cert.MlpLastIdeal.Gen Cert.MlpLastIdeal.Value Idealize.ShloMosaic Idealize.ShloMosaic.TcCoe Idealize.SL.Sem

variable (m : (ℓ : Loc nD τ sig) → Buf (Elt Ideal) ℓ)

/-! ## What one point leaves, over what the point before left -/

theorem stepA (c : Dev nD) (t : Fin cfg0.N) (h0 : t.val % 16 = 0) (h1 : ¬t.val % 16 = 15) :
    outsAt0 m c t.val t.isLt = (k0_pay3 (iblk m c 2 t) (iblk m c 3 t) (k0_pay2 (iblk m c 0 t) (iblk m c 1 t)) (k0_pay1 (iblk m c 0 t)),
      k0_pay2 (iblk m c 0 t) (iblk m c 1 t)) := by
  refine (outsAt0_A m c t h0 h1).trans ?_
  frame_out

theorem stepB (c : Dev nD) (t : Fin cfg0.N) (h0 : ¬t.val % 16 = 0) (h1 : ¬t.val % 16 = 15) (p : Vec Ideal S1024x2048 .f32 × Vec Ideal S1024x2048 .bf16) :
    stAt0 m c t.val t.isLt p = (k0_pay3 (iblk m c 2 t) (iblk m c 3 t) p.2 p.1, p.2) := by
  refine (stAt0_B m c t p h0 h1).trans (Prod.ext ?_ ?_)
  · dsimp only
    frame_out
    rw [show (View.whole cc0_scratch0).read (Elt Ideal) (Memref.IsWhole.unread (Memref.isWhole_whole cc0_scratch0) p.2) = p.2 from Memref.IsWhole.read_unread _ _]
  · dsimp only [sout0_B_0]

theorem stepC (c : Dev nD) (t : Fin cfg0.N) (h0 : ¬t.val % 16 = 0) (h1 : t.val % 16 = 15) (p : Vec Ideal S1024x2048 .f32 × Vec Ideal S1024x2048 .bf16) :
    stAt0 m c t.val t.isLt p = (k0_pay4 (k0_pay3 (iblk m c 2 t) (iblk m c 3 t) p.2 p.1) (iblk m c 4 t), p.2) := by
  refine (stAt0_C m c t p h0 h1).trans (Prod.ext ?_ ?_)
  · dsimp only
    frame_out
    rw [show (View.whole cc0_scratch0).read (Elt Ideal) (Memref.IsWhole.unread (Memref.isWhole_whole cc0_scratch0) p.2) = p.2 from Memref.IsWhole.read_unread _ _]
  · dsimp only [sout0_C_0]

/-! ## The blocks a point reads, as entries of the arguments -/

theorem idx_of : ∀ t : Fin grid0.N, win0_0.index t = ![t.val / 16, 0] ∧ win0_1.index t = ![0, 0] ∧ win0_2.index t = ![1, 0, t.val % 16] ∧
    win0_3.index t = ![1, t.val % 16, 0] ∧ win0_4.index t = ![0, 0] := by decide +kernel

theorem blk0 (c : Dev nD) (t : Fin cfg0.N) (r : Fin 1024) (d : Fin 2048) :
    iblk m c 0 t (ix2 r d) = m ((c : Thread nD τ).loc main_arg0)
      (ix3 ⟨(1024 * (t.val / 16) + r.val) / 2048, by have := t.isLt; have e : cfg0.N = 256 := N_0; omega⟩ ⟨(1024 * (t.val / 16) + r.val) % 2048, by omega⟩ d) := by
  blk_ext! [iblk, V, (idx_of t).1]

theorem blk1 (c : Dev nD) (t : Fin cfg0.N) (d : Fin 2048) :
    iblk m c 1 t (ix2 0 d) = m ((c : Thread nD τ).loc main_arg1) (ix2 1 d) := by
  blk_ext! [iblk, V, (idx_of t).2.1]

theorem blk2 (c : Dev nD) (t : Fin cfg0.N) (d : Fin 2048) (j : Fin 512) :
    iblk m c 2 t (ix3 0 d j) = m ((c : Thread nD τ).loc main_arg2) (ix3 1 d ⟨512 * (t.val % 16) + j.val, by omega⟩) := by
  blk_ext! [iblk, V, (idx_of t).2.2.1]

theorem blk3 (c : Dev nD) (t : Fin cfg0.N) (j : Fin 512) (k : Fin 2048) :
    iblk m c 3 t (ix3 0 j k) = m ((c : Thread nD τ).loc main_arg3) (ix3 1 ⟨512 * (t.val % 16) + j.val, by omega⟩ k) := by
  blk_ext! [iblk, V, (idx_of t).2.2.2.1]

theorem blk4 (c : Dev nD) (t : Fin cfg0.N) (d : Fin 2048) :
    iblk m c 4 t (ix2 0 d) = m ((c : Thread nD τ).loc main_arg4) (ix1 d) := by
  blk_ext! [iblk, V, (idx_of t).2.2.2.2]

/-! ## The stored vectors, entry by entry -/

theorem pay1_apply (x : Vec Ideal S1024x2048 .f32) (r : Fin 1024) (k : Fin 2048) : k0_pay1 x (ix2 r k) = x (ix2 r k) := by
  pointwise [k0_pay1]

theorem pay2_apply (x : Vec Ideal S1024x2048 .f32) (g : Vec Ideal S1x2048 .f32) (r : Fin 1024) (k : Fin 2048) :
    k0_pay2 x g (ix2 r k) = rms (fun d => x (ix2 r d)) (fun d => g (ix2 0 d)) k := by
  unfold rms
  pointwise [k0_pay2, k0_pay1]

theorem pay3_apply (w1 : Vec Ideal S1x2048x512 .f32) (w2 : Vec Ideal S1x512x2048 .f32) (xn : Vec Ideal S1024x2048 .bf16) (o : Vec Ideal S1024x2048 .f32)
    (r : Fin 1024) (k : Fin 2048) : k0_pay3 w1 w2 xn o (ix2 r k) = o (ix2 r k) +
      ∑ j, max (∑ d, xn (ix2 r d) * w1 (ix3 0 d j)) 0 * max (∑ d, xn (ix2 r d) * w1 (ix3 0 d j)) 0 * w2 (ix3 0 j k) := by
  pointwise [k0_pay3]

theorem pay4_apply (x : Vec Ideal S1024x2048 .f32) (g : Vec Ideal S1x2048 .f32) (r : Fin 1024) (k : Fin 2048) :
    k0_pay4 x g (ix2 r k) = rms (fun d => x (ix2 r d)) (fun d => g (ix2 0 d)) k := by
  unfold rms
  pointwise [k0_pay4]

/-! ## The arguments, read by the numbers of their axes -/

/-- Row `R` of the stream, the batch and the position folded into one number. -/
def xrow (c : Dev nD) (R : ℕ) (hR : R < 16384) (d : Fin 2048) : EReal :=
  m ((c : Thread nD τ).loc main_arg0) (ix3 ⟨R / 2048, by omega⟩ ⟨R % 2048, by omega⟩ d)
def gain (c : Dev nD) (d : Fin 2048) : EReal := m ((c : Thread nD τ).loc main_arg1) (ix2 1 d)
def win (c : Dev nD) (d : Fin 2048) (j : Fin 8192) : EReal := m ((c : Thread nD τ).loc main_arg2) (ix3 1 d j)
def wout (c : Dev nD) (j : Fin 8192) (k : Fin 2048) : EReal := m ((c : Thread nD τ).loc main_arg3) (ix3 1 j k)
def lastGain (c : Dev nD) (d : Fin 2048) : EReal := m ((c : Thread nD τ).loc main_arg4) (ix1 d)

theorem rowLt (t : Fin cfg0.N) (r : Fin 1024) : 1024 * (t.val / 16) + r.val < 16384 := by
  have := t.isLt; have e : cfg0.N = 256 := N_0; omega

/-- The normalised row of the stream. -/
def yrow (c : Dev nD) (R : ℕ) (hR : R < 16384) : Fin 2048 → EReal := rms (xrow m c R hR) (gain m c)

/-- One block of 512 hidden units, read off the two weight blocks of a point. -/
theorem block_term (c : Dev nD) (t : Fin cfg0.N) (y : Fin 2048 → EReal) (k : Fin 2048) :
    (∑ j : Fin 512, max (∑ d, y d * iblk m c 2 t (ix3 0 d j)) 0 * max (∑ d, y d * iblk m c 2 t (ix3 0 d j)) 0 * iblk m c 3 t (ix3 0 j k))
      = ∑ j : Fin 512, unitN y (win m c) (wout m c) k (512 * (t.val % 16) + j.val) := by
  refine Finset.sum_congr rfl fun j _ => ?_
  have hj : 512 * (t.val % 16) + j.val < 8192 := by omega
  rw [unitN, dif_pos hj]
  simp only [blk2, blk3]
  rfl

/-- What the output block and the scratch hold after a point that is not the last of its run. -/
def Holds (c : Dev nD) (t : Fin cfg0.N) (p : Vec Ideal S1024x2048 .f32 × Vec Ideal S1024x2048 .bf16) : Prop :=
  (∀ r k, p.1 (ix2 r k) = xrow m c _ (rowLt t r) k +
      ∑ s ∈ Finset.range (t.val % 16 + 1), ∑ j : Fin 512, unitN (yrow m c _ (rowLt t r)) (win m c) (wout m c) k (512 * s + j.val))
  ∧ ∀ r k, p.2 (ix2 r k) = yrow m c _ (rowLt t r) k

theorem pay2_blk (c : Dev nD) (t : Fin cfg0.N) (r : Fin 1024) (k : Fin 2048) :
    k0_pay2 (F := Ideal) (iblk m c 0 t) (iblk m c 1 t) (ix2 r k) = yrow m c _ (rowLt t r) k := by
  rw [pay2_apply]
  simp only [blk0, blk1]
  rfl

theorem holdsA (c : Dev nD) (t : Fin cfg0.N) (h0 : t.val % 16 = 0) (h1 : ¬t.val % 16 = 15) : Holds m c t (outsAt0 m c t.val t.isLt) := by
  rw [stepA m c t h0 h1]
  refine ⟨fun r k => ?_, fun r k => pay2_blk m c t r k⟩
  dsimp only
  rw [pay3_apply, pay1_apply, blk0, h0]
  simp only [pay2_blk]
  rw [block_term, h0]
  simp only [zero_add, Finset.range_one, Finset.sum_singleton]
  rfl

/-- The sum one block longer, at a point that carries on a run. -/
theorem carry (c : Dev nD) (t u : Fin cfg0.N) (hu : u.val + 1 = t.val) (h0 : ¬t.val % 16 = 0) (p : Vec Ideal S1024x2048 .f32 × Vec Ideal S1024x2048 .bf16)
    (hp : Holds m c u p) : Holds m c t (k0_pay3 (F := Ideal) (iblk m c 2 t) (iblk m c 3 t) p.2 p.1, p.2) := by
  have e1 : u.val / 16 = t.val / 16 := by omega
  have e2 : t.val % 16 = u.val % 16 + 1 := by omega
  have er : ∀ r : Fin 1024, 1024 * (u.val / 16) + r.val = 1024 * (t.val / 16) + r.val := fun r => by rw [e1]
  have ex : ∀ r, xrow m c _ (rowLt u r) = xrow m c _ (rowLt t r) := fun r => by congr 1; exact er r
  have ey : ∀ r, yrow m c _ (rowLt u r) = yrow m c _ (rowLt t r) := fun r => by unfold yrow; rw [ex]
  refine ⟨fun r k => ?_, fun r k => by rw [← ey]; exact hp.2 r k⟩
  dsimp only
  rw [pay3_apply]
  simp only [hp.1, hp.2, ex, ey]
  rw [block_term, e2, Finset.sum_range_succ _ (u.val % 16 + 1), add_assoc]

theorem holds (c : Dev nD) : ∀ (n : ℕ) (hn : n < cfg0.N), ¬n % 16 = 15 → Holds m c ⟨n, hn⟩ (outsAt0 m c n hn) := by
  intro n
  induction n with
  | zero => exact fun hn h1 => holdsA m c ⟨0, hn⟩ rfl h1
  | succ n ih =>
    intro hn h1
    by_cases h0 : (n + 1) % 16 = 0
    · exact holdsA m c ⟨n + 1, hn⟩ h0 h1
    · have hn' : n < cfg0.N := Nat.lt_of_succ_lt hn
      have hp := ih hn' (by omega)
      rw [outsAt0_succ]
      have e := stepB m c ⟨n + 1, hn⟩ h0 h1 (outsAt0 m c n hn')
      dsimp only at e
      rw [e]
      exact carry m c ⟨n + 1, hn⟩ ⟨n, hn'⟩ rfl h0 _ hp

/-- The stream after the layer, before the last normalisation. -/
def mid (c : Dev nD) (R : ℕ) (hR : R < 16384) (k : Fin 2048) : EReal :=
  xrow m c R hR k + ∑ j, unit (yrow m c R hR) (win m c) (wout m c) k j

theorem mid_of (c : Dev nD) (t : Fin cfg0.N) (h1 : t.val % 16 = 15) (p : Vec Ideal S1024x2048 .f32 × Vec Ideal S1024x2048 .bf16) (hp : Holds m c t p)
    (r : Fin 1024) : (fun k => p.1 (ix2 r k)) = mid m c _ (rowLt t r) := by
  funext k
  rw [hp.1, h1, sum_units]
  rfl

theorem last_of (c : Dev nD) (t u : Fin cfg0.N) (hu : u.val + 1 = t.val) (h0 : ¬t.val % 16 = 0) (h1 : t.val % 16 = 15)
    (p : Vec Ideal S1024x2048 .f32 × Vec Ideal S1024x2048 .bf16) (hp : Holds m c u p) (r : Fin 1024) (k : Fin 2048) :
    (stAt0 m c t.val t.isLt p).1 (ix2 r k) = rms (mid m c _ (rowLt t r)) (lastGain m c) k := by
  rw [stepC m c t h0 h1 p]
  refine (pay4_apply _ _ r k).trans ?_
  rw [mid_of m c t h1 _ (carry m c t u hu h0 p hp) r]
  simp only [blk4]
  rfl

theorem last (c : Dev nD) (n : ℕ) (hn : n + 1 < cfg0.N) (h1 : (n + 1) % 16 = 15) (r : Fin 1024) (k : Fin 2048) :
    (outsAt0 m c (n + 1) hn).1 (ix2 r k) = rms (mid m c _ (rowLt ⟨n + 1, hn⟩ r)) (lastGain m c) k := by
  rw [outsAt0_succ]
  exact last_of m c ⟨n + 1, hn⟩ ⟨n, Nat.lt_of_succ_lt hn⟩ rfl (by dsimp only; omega) h1 _ (holds m c n _ (by omega)) r k

theorem value (c : Dev nD) (i : S16384x2048.Idx) (R : ℕ) (hR : R < 16384) (k : Fin 2048) (hi : i = ix2 ⟨R, hR⟩ k) :
    G5 m c i = rms (mid m c R hR) (lastGain m c) k := by
  subst hi
  have hr : run5Of (ix2 (⟨R, hR⟩ : Fin 16384) k) = R / 1024 := by
    show 1 * (R / 1024 - 0) + 1 * (k.val / 2048 - 0) = _
    omega
  have hlt : 16 * run5Of (ix2 (⟨R, hR⟩ : Fin 16384) k) + 15 < cfg0.N := by rw [hr]; have e : cfg0.N = 256 := N_0; omega
  have hl : loc5Of (ix2 (⟨R, hR⟩ : Fin 16384) k) = ix2 ⟨R % 1024, by omega⟩ k := by
    funext a
    fin_cases a
    · rfl
    · exact Fin.ext (show k.val % 2048 = k.val by omega)
  unfold G5
  rw [dif_pos hlt, hl]
  have e := outsAt0_sweep m c _ hlt
  rw [← e, last m c _ hlt (by omega)]
  have eR : 1024 * ((16 * run5Of (ix2 (⟨R, hR⟩ : Fin 16384) k) + 15) / 16) + R % 1024 = R := by rw [hr]; omega
  congr 2

/-! ## The reference, entry by entry -/

open Cert.MlpLastReferenceIdeal.Read

theorem ref_xn (x0 : (⟨S8x2048x2048, .f32⟩ : BufTy).Contents (Elt Ideal)) (x1 : (⟨S2x2048, .f32⟩ : BufTy).Contents (Elt Ideal)) (b : Fin 8) (s d : Fin 2048) :
    val_main_v14 (F := Ideal) x0 x1 (ix3 b s d) = rms (fun d => x0 (ix3 b s d)) (fun d => x1 (ix2 1 d)) d := by
  unfold rms
  pointwise [val_main_v14, val_main_v11, val_main_v10, val_main_v9, val_main_v8, val_main_v7, val_main_v6, val_main_v5, val_main_v4, val_main_v3, val_main_v2, val_main_v1, val_main_v0, val_main_v13, val_main_v12, val_main_cst, val_main_cst_0, val_main_cst_1]

theorem ref_mid (x0 : (⟨S8x2048x2048, .f32⟩ : BufTy).Contents (Elt Ideal)) (x1 : (⟨S2x2048, .f32⟩ : BufTy).Contents (Elt Ideal))
    (x2 : (⟨S2x2048x8192, .f32⟩ : BufTy).Contents (Elt Ideal)) (x3 : (⟨S2x8192x2048, .f32⟩ : BufTy).Contents (Elt Ideal)) (b : Fin 8) (s k : Fin 2048) :
    val_main_v23 (F := Ideal) x0 x1 x2 x3 (ix3 b s k) = x0 (ix3 b s k) +
      ∑ j, unit (fun d => val_main_v14 (F := Ideal) x0 x1 (ix3 b s d)) (fun d j => x2 (ix3 1 d j)) (fun j k => x3 (ix3 1 j k)) k j := by
  unfold unit
  pointwise [val_main_v23, val_main_v22, val_main_v21, val_main_v20, val_main_call0_v0, val_main_call0_cst, val_main_v19, val_main_v18, val_main_v17, val_main_v16, val_main_v15]

theorem ref_last (x0 : (⟨S8x2048x2048, .f32⟩ : BufTy).Contents (Elt Ideal)) (x1 : (⟨S2x2048, .f32⟩ : BufTy).Contents (Elt Ideal))
    (x2 : (⟨S2x2048x8192, .f32⟩ : BufTy).Contents (Elt Ideal)) (x3 : (⟨S2x8192x2048, .f32⟩ : BufTy).Contents (Elt Ideal)) (x4 : (⟨S2048, .f32⟩ : BufTy).Contents (Elt Ideal)) (R : Fin 16384) (k : Fin 2048) :
    val_main_v37 (F := Ideal) x0 x1 x2 x3 x4 (ix2 R k) =
      rms (fun d => val_main_v23 (F := Ideal) x0 x1 x2 x3 (ix3 ⟨R.val / 2048, by omega⟩ ⟨R.val % 2048, by omega⟩ d)) (fun d => x4 (ix1 d)) k := by
  unfold rms
  pointwise [val_main_v37, val_main_v36, val_main_v35, val_main_v34, val_main_v33, val_main_v32, val_main_v31, val_main_v30, val_main_v29, val_main_v28, val_main_v27, val_main_v26, val_main_v25, val_main_v24, val_main_cst_2, val_main_cst_3, val_main_cst_4]

/-- The reference's stream before the last normalisation is the kernel's, at arguments that agree. -/
theorem mid_eq (c : Dev nD) (R : ℕ) (hR : R < 16384) (x0 : (⟨S8x2048x2048, .f32⟩ : BufTy).Contents (Elt Ideal)) (x1 : (⟨S2x2048, .f32⟩ : BufTy).Contents (Elt Ideal))
    (x2 : (⟨S2x2048x8192, .f32⟩ : BufTy).Contents (Elt Ideal)) (x3 : (⟨S2x8192x2048, .f32⟩ : BufTy).Contents (Elt Ideal))
    (h0 : x0 = m ((c : Thread nD τ).loc main_arg0)) (h1 : x1 = m ((c : Thread nD τ).loc main_arg1))
    (h2 : x2 = m ((c : Thread nD τ).loc main_arg2)) (h3 : x3 = m ((c : Thread nD τ).loc main_arg3)) :
    (fun k => val_main_v23 (F := Ideal) x0 x1 x2 x3 (ix3 ⟨R / 2048, by omega⟩ ⟨R % 2048, by omega⟩ k)) = mid m c R hR := by
  funext k
  rw [ref_mid]
  simp only [ref_xn]
  subst h0; subst h1; subst h2; subst h3
  rfl

/-- The result, at every index: the reference's is the kernel's. -/
theorem result_eq (m' : (ℓ : Loc Cert.MlpLastReferenceIdeal.nD Cert.MlpLastReferenceIdeal.τ Cert.MlpLastReferenceIdeal.sig) → Buf (Elt Ideal) ℓ) (c : Dev nD)
    (h0 : m' ((c.tc : Thread Cert.MlpLastReferenceIdeal.nD Cert.MlpLastReferenceIdeal.τ).loc Cert.MlpLastReferenceIdeal.main_arg0) = m ((c.tc : Thread nD τ).loc main_arg0))
    (h1 : m' ((c.tc : Thread Cert.MlpLastReferenceIdeal.nD Cert.MlpLastReferenceIdeal.τ).loc Cert.MlpLastReferenceIdeal.main_arg1) = m ((c.tc : Thread nD τ).loc main_arg1))
    (h2 : m' ((c.tc : Thread Cert.MlpLastReferenceIdeal.nD Cert.MlpLastReferenceIdeal.τ).loc Cert.MlpLastReferenceIdeal.main_arg2) = m ((c.tc : Thread nD τ).loc main_arg2))
    (h3 : m' ((c.tc : Thread Cert.MlpLastReferenceIdeal.nD Cert.MlpLastReferenceIdeal.τ).loc Cert.MlpLastReferenceIdeal.main_arg3) = m ((c.tc : Thread nD τ).loc main_arg3))
    (h4 : m' ((c.tc : Thread Cert.MlpLastReferenceIdeal.nD Cert.MlpLastReferenceIdeal.τ).loc Cert.MlpLastReferenceIdeal.main_arg4) = m ((c.tc : Thread nD τ).loc main_arg4)) :
    Cert.MlpLastReferenceIdeal.Value.res_main_v37 m' c = G5 m c := by
  rw [val_main_v37_eq]
  funext i
  obtain ⟨R, k, hi⟩ : ∃ (R : Fin 16384) (k : Fin 2048), i = ix2 R k := ⟨i 0, i 1, by funext a; fin_cases a <;> rfl⟩
  refine Eq.trans ?_ (value m c i R.val R.isLt k hi).symm
  rw [hi, ref_last, mid_eq m c R.val R.isLt _ _ _ _ h0 h1 h2 h3, h4]
  rfl

end Cert.Proof.MlpLast
end
-- ==== Proof.MlpFirst.lean ====
module

public import proofs.«01_k».proof.Proof.Gen.MlpFirstIdeal.Value
public import proofs.«01_k».proof.Proof.Gen.MlpFirstReferenceIdeal.Run
public import proofs.«01_k».proof.Proof.Gen.MlpFirstReferenceIdeal.Read
public import proofs.«01_k».proof.Proof.MlpShared
public import Idealize.ShloMosaic.Lib.Pointwise
public import Idealize.ShloMosaic.Lib.Pipeline.ValueKit

/-! The first feed-forward layer: at every index the kernel's result, accumulated over sixteen blocks of 512 hidden units,
    is the reference's. -/

@[expose] public section

set_option maxRecDepth 16384

noncomputable section

namespace Cert.Proof.MlpFirst

open Cert.Proof.Mlp Cert.MlpFirstIdeal Cert.MlpFirstIdeal.Gen Cert.MlpFirstIdeal.Value Idealize.ShloMosaic Idealize.ShloMosaic.TcCoe Idealize.SL.Sem

variable (m : (ℓ : Loc nD τ sig) → Buf (Elt Ideal) ℓ)

/-! ## What one point leaves, over what the point before left -/

theorem stepA (c : Dev nD) (t : Fin cfg0.N) (h0 : t.val % 16 = 0) :
    outsAt0 m c t.val t.isLt = (k0_pay3 (iblk m c 2 t) (iblk m c 3 t) (k0_pay2 (iblk m c 0 t) (iblk m c 1 t)) (k0_pay1 (iblk m c 0 t)),
      k0_pay2 (iblk m c 0 t) (iblk m c 1 t)) := by
  refine (outsAt0_A m c t h0).trans ?_
  frame_out

theorem stepB (c : Dev nD) (t : Fin cfg0.N) (h0 : ¬t.val % 16 = 0) (p : Vec Ideal S1024x2048 .f32 × Vec Ideal S1024x2048 .bf16) :
    stAt0 m c t.val t.isLt p = (k0_pay3 (iblk m c 2 t) (iblk m c 3 t) p.2 p.1, p.2) := by
  refine (stAt0_B m c t p h0).trans (Prod.ext ?_ ?_)
  · dsimp only
    frame_out
    rw [show (View.whole cc0_scratch0).read (Elt Ideal) (Memref.IsWhole.unread (Memref.isWhole_whole cc0_scratch0) p.2) = p.2 from Memref.IsWhole.read_unread _ _]
  · dsimp only [sout0_B_0]

/-! ## The blocks a point reads, as entries of the arguments -/

theorem idx_of : ∀ t : Fin grid0.N, win0_0.index t = ![t.val / 16, 0] ∧ win0_1.index t = ![0, 0] ∧ win0_2.index t = ![0, 0, t.val % 16] ∧
    win0_3.index t = ![0, t.val % 16, 0] ∧ win0_4.index t = ![0, 0] := by decide +kernel

theorem blk0 (c : Dev nD) (t : Fin cfg0.N) (r : Fin 1024) (d : Fin 2048) :
    iblk m c 0 t (ix2 r d) = m ((c : Thread nD τ).loc main_arg0)
      (ix3 ⟨(1024 * (t.val / 16) + r.val) / 2048, by have := t.isLt; have e : cfg0.N = 256 := N_0; omega⟩ ⟨(1024 * (t.val / 16) + r.val) % 2048, by omega⟩ d) := by
  blk_ext! [iblk, V, (idx_of t).1]

theorem blk1 (c : Dev nD) (t : Fin cfg0.N) (d : Fin 2048) :
    iblk m c 1 t (ix2 0 d) = m ((c : Thread nD τ).loc main_arg1) (ix2 0 d) := by
  blk_ext! [iblk, V, (idx_of t).2.1]

theorem blk2 (c : Dev nD) (t : Fin cfg0.N) (d : Fin 2048) (j : Fin 512) :
    iblk m c 2 t (ix3 0 d j) = m ((c : Thread nD τ).loc main_arg2) (ix3 0 d ⟨512 * (t.val % 16) + j.val, by omega⟩) := by
  blk_ext! [iblk, V, (idx_of t).2.2.1]

theorem blk3 (c : Dev nD) (t : Fin cfg0.N) (j : Fin 512) (k : Fin 2048) :
    iblk m c 3 t (ix3 0 j k) = m ((c : Thread nD τ).loc main_arg3) (ix3 0 ⟨512 * (t.val % 16) + j.val, by omega⟩ k) := by
  blk_ext! [iblk, V, (idx_of t).2.2.2.1]

theorem blk4 (c : Dev nD) (t : Fin cfg0.N) (d : Fin 2048) :
    iblk m c 4 t (ix2 0 d) = m ((c : Thread nD τ).loc main_arg4) (ix1 d) := by
  blk_ext! [iblk, V, (idx_of t).2.2.2.2]

/-! ## The stored vectors, entry by entry -/

theorem pay1_apply (x : Vec Ideal S1024x2048 .f32) (r : Fin 1024) (k : Fin 2048) : k0_pay1 x (ix2 r k) = x (ix2 r k) := by
  pointwise [k0_pay1]

theorem pay2_apply (x : Vec Ideal S1024x2048 .f32) (g : Vec Ideal S1x2048 .f32) (r : Fin 1024) (k : Fin 2048) :
    k0_pay2 x g (ix2 r k) = rms (fun d => x (ix2 r d)) (fun d => g (ix2 0 d)) k := by
  unfold rms
  pointwise [k0_pay2, k0_pay1]

theorem pay3_apply (w1 : Vec Ideal S1x2048x512 .f32) (w2 : Vec Ideal S1x512x2048 .f32) (xn : Vec Ideal S1024x2048 .bf16) (o : Vec Ideal S1024x2048 .f32)
    (r : Fin 1024) (k : Fin 2048) : k0_pay3 w1 w2 xn o (ix2 r k) = o (ix2 r k) +
      ∑ j, max (∑ d, xn (ix2 r d) * w1 (ix3 0 d j)) 0 * max (∑ d, xn (ix2 r d) * w1 (ix3 0 d j)) 0 * w2 (ix3 0 j k) := by
  pointwise [k0_pay3]

/-! ## The arguments, read by the numbers of their axes -/

/-- Row `R` of the stream, the batch and the position folded into one number. -/
def xrow (c : Dev nD) (R : ℕ) (hR : R < 16384) (d : Fin 2048) : EReal :=
  m ((c : Thread nD τ).loc main_arg0) (ix3 ⟨R / 2048, by omega⟩ ⟨R % 2048, by omega⟩ d)
def gain (c : Dev nD) (d : Fin 2048) : EReal := m ((c : Thread nD τ).loc main_arg1) (ix2 0 d)
def win (c : Dev nD) (d : Fin 2048) (j : Fin 8192) : EReal := m ((c : Thread nD τ).loc main_arg2) (ix3 0 d j)
def wout (c : Dev nD) (j : Fin 8192) (k : Fin 2048) : EReal := m ((c : Thread nD τ).loc main_arg3) (ix3 0 j k)

theorem rowLt (t : Fin cfg0.N) (r : Fin 1024) : 1024 * (t.val / 16) + r.val < 16384 := by
  have := t.isLt; have e : cfg0.N = 256 := N_0; omega

/-- The normalised row of the stream. -/
def yrow (c : Dev nD) (R : ℕ) (hR : R < 16384) : Fin 2048 → EReal := rms (xrow m c R hR) (gain m c)

/-- One block of 512 hidden units, read off the two weight blocks of a point. -/
theorem block_term (c : Dev nD) (t : Fin cfg0.N) (y : Fin 2048 → EReal) (k : Fin 2048) :
    (∑ j : Fin 512, max (∑ d, y d * iblk m c 2 t (ix3 0 d j)) 0 * max (∑ d, y d * iblk m c 2 t (ix3 0 d j)) 0 * iblk m c 3 t (ix3 0 j k))
      = ∑ j : Fin 512, unitN y (win m c) (wout m c) k (512 * (t.val % 16) + j.val) := by
  refine Finset.sum_congr rfl fun j _ => ?_
  have hj : 512 * (t.val % 16) + j.val < 8192 := by omega
  rw [unitN, dif_pos hj]
  simp only [blk2, blk3]
  rfl

/-- What the output block and the scratch hold after a point. -/
def Holds (c : Dev nD) (t : Fin cfg0.N) (p : Vec Ideal S1024x2048 .f32 × Vec Ideal S1024x2048 .bf16) : Prop :=
  (∀ r k, p.1 (ix2 r k) = xrow m c _ (rowLt t r) k +
      ∑ s ∈ Finset.range (t.val % 16 + 1), ∑ j : Fin 512, unitN (yrow m c _ (rowLt t r)) (win m c) (wout m c) k (512 * s + j.val))
  ∧ ∀ r k, p.2 (ix2 r k) = yrow m c _ (rowLt t r) k

theorem pay2_blk (c : Dev nD) (t : Fin cfg0.N) (r : Fin 1024) (k : Fin 2048) :
    k0_pay2 (F := Ideal) (iblk m c 0 t) (iblk m c 1 t) (ix2 r k) = yrow m c _ (rowLt t r) k := by
  rw [pay2_apply]
  simp only [blk0, blk1]
  rfl

theorem holdsA (c : Dev nD) (t : Fin cfg0.N) (h0 : t.val % 16 = 0) : Holds m c t (outsAt0 m c t.val t.isLt) := by
  rw [stepA m c t h0]
  refine ⟨fun r k => ?_, fun r k => pay2_blk m c t r k⟩
  dsimp only
  rw [pay3_apply, pay1_apply, blk0, h0]
  simp only [pay2_blk]
  rw [block_term, h0]
  simp only [zero_add, Finset.range_one, Finset.sum_singleton]
  rfl

/-- The sum one block longer, at a point that carries on a run. -/
theorem carry (c : Dev nD) (t u : Fin cfg0.N) (hu : u.val + 1 = t.val) (h0 : ¬t.val % 16 = 0) (p : Vec Ideal S1024x2048 .f32 × Vec Ideal S1024x2048 .bf16)
    (hp : Holds m c u p) : Holds m c t (k0_pay3 (F := Ideal) (iblk m c 2 t) (iblk m c 3 t) p.2 p.1, p.2) := by
  have e1 : u.val / 16 = t.val / 16 := by omega
  have e2 : t.val % 16 = u.val % 16 + 1 := by omega
  have er : ∀ r : Fin 1024, 1024 * (u.val / 16) + r.val = 1024 * (t.val / 16) + r.val := fun r => by rw [e1]
  have ex : ∀ r, xrow m c _ (rowLt u r) = xrow m c _ (rowLt t r) := fun r => by congr 1; exact er r
  have ey : ∀ r, yrow m c _ (rowLt u r) = yrow m c _ (rowLt t r) := fun r => by unfold yrow; rw [ex]
  refine ⟨fun r k => ?_, fun r k => by rw [← ey]; exact hp.2 r k⟩
  dsimp only
  rw [pay3_apply]
  simp only [hp.1, hp.2, ex, ey]
  rw [block_term, e2, Finset.sum_range_succ _ (u.val % 16 + 1), add_assoc]

theorem holds (c : Dev nD) : ∀ (n : ℕ) (hn : n < cfg0.N), Holds m c ⟨n, hn⟩ (outsAt0 m c n hn) := by
  intro n
  induction n with
  | zero => exact fun hn => holdsA m c ⟨0, hn⟩ rfl
  | succ n ih =>
    intro hn
    by_cases h0 : (n + 1) % 16 = 0
    · exact holdsA m c ⟨n + 1, hn⟩ h0
    · have hn' : n < cfg0.N := Nat.lt_of_succ_lt hn
      have hp := ih hn'
      rw [outsAt0_succ]
      have e := stepB m c ⟨n + 1, hn⟩ h0 (outsAt0 m c n hn')
      dsimp only at e
      rw [e]
      exact carry m c ⟨n + 1, hn⟩ ⟨n, hn'⟩ rfl h0 _ hp

/-- The stream after the layer. -/
def mid (c : Dev nD) (R : ℕ) (hR : R < 16384) (k : Fin 2048) : EReal :=
  xrow m c R hR k + ∑ j, unit (yrow m c R hR) (win m c) (wout m c) k j

theorem last (c : Dev nD) (n : ℕ) (hn : n < cfg0.N) (h1 : n % 16 = 15) (r : Fin 1024) (k : Fin 2048) :
    (outsAt0 m c n hn).1 (ix2 r k) = mid m c _ (rowLt ⟨n, hn⟩ r) k := by
  rw [(holds m c n hn).1]
  dsimp only
  rw [h1, sum_units]
  rfl

theorem value (c : Dev nD) (i : S16384x2048.Idx) (R : ℕ) (hR : R < 16384) (k : Fin 2048) (hi : i = ix2 ⟨R, hR⟩ k) :
    G5 m c i = mid m c R hR k := by
  subst hi
  have hr : run5Of (ix2 (⟨R, hR⟩ : Fin 16384) k) = R / 1024 := by
    show 1 * (R / 1024 - 0) + 1 * (k.val / 2048 - 0) = _
    omega
  have hlt : 16 * run5Of (ix2 (⟨R, hR⟩ : Fin 16384) k) + 15 < cfg0.N := by rw [hr]; have e : cfg0.N = 256 := N_0; omega
  have hl : loc5Of (ix2 (⟨R, hR⟩ : Fin 16384) k) = ix2 ⟨R % 1024, by omega⟩ k := by
    funext a
    fin_cases a
    · rfl
    · exact Fin.ext (show k.val % 2048 = k.val by omega)
  unfold G5
  rw [dif_pos hlt, hl]
  have e := outsAt0_sweep m c _ hlt
  rw [← e, last m c _ hlt (by omega)]
  have eR : 1024 * ((16 * run5Of (ix2 (⟨R, hR⟩ : Fin 16384) k) + 15) / 16) + R % 1024 = R := by rw [hr]; omega
  congr 1

/-! ## The reference, entry by entry -/

open Cert.MlpFirstReferenceIdeal.Read

theorem ref_xn (x0 : (⟨S8x2048x2048, .f32⟩ : BufTy).Contents (Elt Ideal)) (x1 : (⟨S2x2048, .f32⟩ : BufTy).Contents (Elt Ideal)) (b : Fin 8) (s d : Fin 2048) :
    val_main_v14 (F := Ideal) x0 x1 (ix3 b s d) = rms (fun d => x0 (ix3 b s d)) (fun d => x1 (ix2 0 d)) d := by
  unfold rms
  pointwise [val_main_v14, val_main_v11, val_main_v10, val_main_v9, val_main_v8, val_main_v7, val_main_v6, val_main_v5, val_main_v4, val_main_v3, val_main_v2, val_main_v1, val_main_v0, val_main_v13, val_main_v12, val_main_cst, val_main_cst_0, val_main_cst_1]

theorem ref_mid (x0 : (⟨S8x2048x2048, .f32⟩ : BufTy).Contents (Elt Ideal)) (x1 : (⟨S2x2048, .f32⟩ : BufTy).Contents (Elt Ideal))
    (x2 : (⟨S2x2048x8192, .f32⟩ : BufTy).Contents (Elt Ideal)) (x3 : (⟨S2x8192x2048, .f32⟩ : BufTy).Contents (Elt Ideal)) (b : Fin 8) (s k : Fin 2048) :
    val_main_v23 (F := Ideal) x0 x1 x2 x3 (ix3 b s k) = x0 (ix3 b s k) +
      ∑ j, unit (fun d => val_main_v14 (F := Ideal) x0 x1 (ix3 b s d)) (fun d j => x2 (ix3 0 d j)) (fun j k => x3 (ix3 0 j k)) k j := by
  unfold unit
  pointwise [val_main_v23, val_main_v22, val_main_v21, val_main_v20, val_main_call0_v0, val_main_call0_cst, val_main_v19, val_main_v18, val_main_v17, val_main_v16, val_main_v15]

theorem ref_last (x0 : (⟨S8x2048x2048, .f32⟩ : BufTy).Contents (Elt Ideal)) (x1 : (⟨S2x2048, .f32⟩ : BufTy).Contents (Elt Ideal))
    (x2 : (⟨S2x2048x8192, .f32⟩ : BufTy).Contents (Elt Ideal)) (x3 : (⟨S2x8192x2048, .f32⟩ : BufTy).Contents (Elt Ideal)) (R : Fin 16384) (k : Fin 2048) :
    val_main_v24 (F := Ideal) x0 x1 x2 x3 (ix2 R k) = val_main_v23 (F := Ideal) x0 x1 x2 x3 (ix3 ⟨R.val / 2048, by omega⟩ ⟨R.val % 2048, by omega⟩ k) := by
  pointwise [val_main_v24]

/-- The reference's stream after the layer is the kernel's, at arguments that agree. -/
theorem mid_eq (c : Dev nD) (R : ℕ) (hR : R < 16384) (x0 : (⟨S8x2048x2048, .f32⟩ : BufTy).Contents (Elt Ideal)) (x1 : (⟨S2x2048, .f32⟩ : BufTy).Contents (Elt Ideal))
    (x2 : (⟨S2x2048x8192, .f32⟩ : BufTy).Contents (Elt Ideal)) (x3 : (⟨S2x8192x2048, .f32⟩ : BufTy).Contents (Elt Ideal))
    (h0 : x0 = m ((c : Thread nD τ).loc main_arg0)) (h1 : x1 = m ((c : Thread nD τ).loc main_arg1))
    (h2 : x2 = m ((c : Thread nD τ).loc main_arg2)) (h3 : x3 = m ((c : Thread nD τ).loc main_arg3)) :
    (fun k => val_main_v23 (F := Ideal) x0 x1 x2 x3 (ix3 ⟨R / 2048, by omega⟩ ⟨R % 2048, by omega⟩ k)) = mid m c R hR := by
  funext k
  rw [ref_mid]
  simp only [ref_xn]
  subst h0; subst h1; subst h2; subst h3
  rfl

/-- The result, at every index: the reference's is the kernel's. -/
theorem result_eq (m' : (ℓ : Loc Cert.MlpFirstReferenceIdeal.nD Cert.MlpFirstReferenceIdeal.τ Cert.MlpFirstReferenceIdeal.sig) → Buf (Elt Ideal) ℓ) (c : Dev nD)
    (h0 : m' ((c.tc : Thread Cert.MlpFirstReferenceIdeal.nD Cert.MlpFirstReferenceIdeal.τ).loc Cert.MlpFirstReferenceIdeal.main_arg0) = m ((c.tc : Thread nD τ).loc main_arg0))
    (h1 : m' ((c.tc : Thread Cert.MlpFirstReferenceIdeal.nD Cert.MlpFirstReferenceIdeal.τ).loc Cert.MlpFirstReferenceIdeal.main_arg1) = m ((c.tc : Thread nD τ).loc main_arg1))
    (h2 : m' ((c.tc : Thread Cert.MlpFirstReferenceIdeal.nD Cert.MlpFirstReferenceIdeal.τ).loc Cert.MlpFirstReferenceIdeal.main_arg2) = m ((c.tc : Thread nD τ).loc main_arg2))
    (h3 : m' ((c.tc : Thread Cert.MlpFirstReferenceIdeal.nD Cert.MlpFirstReferenceIdeal.τ).loc Cert.MlpFirstReferenceIdeal.main_arg3) = m ((c.tc : Thread nD τ).loc main_arg3)) :
    val_main_v24 (F := Ideal) (m' ((c.tc : Thread Cert.MlpFirstReferenceIdeal.nD Cert.MlpFirstReferenceIdeal.τ).loc Cert.MlpFirstReferenceIdeal.main_arg0))
      (m' ((c.tc : Thread Cert.MlpFirstReferenceIdeal.nD Cert.MlpFirstReferenceIdeal.τ).loc Cert.MlpFirstReferenceIdeal.main_arg1))
      (m' ((c.tc : Thread Cert.MlpFirstReferenceIdeal.nD Cert.MlpFirstReferenceIdeal.τ).loc Cert.MlpFirstReferenceIdeal.main_arg2))
      (m' ((c.tc : Thread Cert.MlpFirstReferenceIdeal.nD Cert.MlpFirstReferenceIdeal.τ).loc Cert.MlpFirstReferenceIdeal.main_arg3)) = G5 m c := by
  funext i
  obtain ⟨R, k, hi⟩ : ∃ (R : Fin 16384) (k : Fin 2048), i = ix2 R k := ⟨i 0, i 1, by funext a; fin_cases a <;> rfl⟩
  refine Eq.trans ?_ (value m c i R.val R.isLt k hi).symm
  rw [hi, ref_last]
  exact congrFun (mid_eq m c R.val R.isLt _ _ _ _ h0 h1 h2 h3) k

end Cert.Proof.MlpFirst
end
-- ==== Proof.ConvBody.lean ====
module

public import proofs.«01_k».proof.Proof.Gen.ConvIdeal.Value
public import Idealize.ShloMosaic.Lib.Pointwise
public import Idealize.ShloMosaic.Lib.Pipeline.ValueKit

/-! What one grid point of the convolution kernel stores: the eight stripes of the gated rows and the sixteen tiles of the
    convolution, each written once as a function of its first channel. -/

@[expose] public section

set_option maxRecDepth 65536

noncomputable section

namespace Cert.Proof.Conv

open Cert.ConvIdeal Cert.ConvIdeal.Gen Cert.ConvIdeal.Value Idealize.ShloMosaic Idealize.ShloMosaic.TcCoe Idealize.SL.Sem

/-! ## The rectangles, as functions of their first channel -/

theorem inbExt (a n : ℕ) (ha : a + 520 ≤ 544) (hn : n + 128 ≤ 2048) : ∀ i, (![a, n] : Fin 2 → Nat) i + S520x128.size i ≤ S544x2048.size i := by
  intro i; fin_cases i
  · exact ha
  · exact hn
theorem inbTap (k n : ℕ) (hk : k < 31) (hn : n + 128 ≤ 2048) : ∀ i, (![k, n] : Fin 2 → Nat) i + S1x128.size i ≤ S31x2048.size i := by
  intro i; fin_cases i
  · exact hk
  · exact hn
theorem inbBias (n : ℕ) (hn : n + 128 ≤ 2048) : ∀ i, (![0, n] : Fin 2 → Nat) i + S1x128.size i ≤ S1x2048.size i := by
  intro i; fin_cases i
  · exact Nat.le_refl 1
  · exact hn
theorem inbTile (n : ℕ) (hn : n + 128 ≤ 2048) : ∀ i, (![0, n] : Fin 2 → Nat) i + S512x128.size i ≤ S512x2048.size i := by
  intro i; fin_cases i
  · exact Nat.le_refl 512
  · exact hn
theorem inbWin (n : ℕ) (hn : n + 256 ≤ 4096) : ∀ i, (![0, n] : Fin 2 → Nat) i + S2048x256.size i ≤ S2048x4096.size i := by
  intro i; fin_cases i
  · exact Nat.le_refl 2048
  · exact hn
theorem inbBin (n : ℕ) (hn : n + 256 ≤ 4096) : ∀ i, (![0, n] : Fin 2 → Nat) i + S1x256.size i ≤ S1x4096.size i := by
  intro i; fin_cases i
  · exact Nat.le_refl 1
  · exact hn
theorem inbStripe (n : ℕ) (hn : n + 256 ≤ 2048) : ∀ i, (![32, n] : Fin 2 → Nat) i + S512x256.size i ≤ S544x2048.size i := by
  intro i; fin_cases i
  · exact Nat.le_refl 544
  · exact hn

/-! ## One stripe of the gated rows -/

/-- The gate over one stripe: the first product by the logistic of the second. -/
def gate (xn : Vec Ideal S512x2048 .bf16) (wa : Vec Ideal S2048x256 .bf16) (ba : Vec Ideal S1x256 .f32) (wb : Vec Ideal S2048x256 .bf16)
    (bb : Vec Ideal S1x256 .f32) : FVec Ideal S512x256 .f32 :=
  k0_pay34 (F := Ideal) xn wa ba wb bb

section
variable (arg4 : Memref sig .tc .vmem S2048x4096 .bf16) (f4 : arg4.view.ty.Contents (Elt Ideal))
  (arg5 : Memref sig .tc .vmem S1x4096 .f32) (f5 : arg5.view.ty.Contents (Elt Ideal)) (xn : Vec Ideal S512x2048 .bf16)

/-- The stripe of 256 channels from channel `n` on, its weights and biases loaded at channels `n` and `2048 + n`. -/
def stripe (n : ℕ) (hn : n + 256 ≤ 2048) : FVec Ideal S512x256 .f32 :=
  gate xn (View.readAt (Elt Ideal) arg4.view (Rect.unit (s := S2048x4096) ![0, n] S2048x256.size (inbWin n (by omega))).toLoadRect f4)
    (View.readAt (Elt Ideal) arg5.view (Rect.unit (s := S1x4096) ![0, n] S1x256.size (inbBin n (by omega))).toLoadRect f5)
    (View.readAt (Elt Ideal) arg4.view (Rect.unit (s := S2048x4096) ![0, n + 2048] S2048x256.size (inbWin (n + 2048) (by omega))).toLoadRect f4)
    (View.readAt (Elt Ideal) arg5.view (Rect.unit (s := S1x4096) ![0, n + 2048] S1x256.size (inbBin (n + 2048) (by omega))).toLoadRect f5)

/-- The first `k` stripes, the last stored first, over the halo rows. -/
def stripes (halo : FVec Ideal S32x2048 .f32) : (k : ℕ) → k ≤ 8 → List (View.Piece (Elt Ideal) S544x2048 .f32)
  | 0, _ => [⟨Rect.unit ![0, 0] S32x2048.size inb_S544x2048_S32x2048_0_0, halo⟩]
  | k + 1, hk => ⟨Rect.unit ![32, 256 * k] S512x256.size (inbStripe (256 * k) (by omega)), stripe arg4 f4 arg5 f5 xn (256 * k) (by omega)⟩ ::
      stripes halo k (by omega)
end

/-! ## One tile of the convolution -/

/-- The window of rows `e` by one row of taps. -/
def tapped (e : Vec Ideal S520x128 .f32) (w : Vec Ideal S1x128 .f32) : FVec Ideal S520x128 .f32 :=
  mulf e (broadcastTo S520x128 (shapeCast S1x128 w shapeCasts_S1x128_S1x128) broadcasts_S1x128_S520x128)

def seg3 (e0 e1 e2 : Vec Ideal S520x128 .f32) (w0 w1 w2 : Vec Ideal S1x128 .f32) : FVec Ideal S520x128 .f32 :=
  addf (addf (tapped e0 w0) (tapped e1 w1)) (tapped e2 w2)

def seg4 (e0 e1 e2 e3 : Vec Ideal S520x128 .f32) (w0 w1 w2 w3 : Vec Ideal S1x128 .f32) : FVec Ideal S520x128 .f32 :=
  addf (seg3 e0 e1 e2 w0 w1 w2) (tapped e3 w3)

/-- The thirty-one taps over four windows of rows eight apart, the shifts within eight rows taken out of the sums. -/
def tileOf (e0 e1 e2 e3 : Vec Ideal S520x128 .f32) (W : (k : ℕ) → k < 31 → Vec Ideal S1x128 .f32) (b : Vec Ideal S1x128 .f32) : FVec Ideal S512x128 .f32 :=
  shapeCast S512x128
  (addf (addf (addf (addf (addf (addf (addf (addf
    (extractStridedSlice S512x128 ![8, 0] (seg4 e0 e1 e2 e3 (W 30 (by decide)) (W 22 (by decide)) (W 14 (by decide)) (W 6 (by decide))) slices_S520x128_o8_0_S512x128)
    (extractStridedSlice S512x128 ![7, 0] (seg4 e0 e1 e2 e3 (W 29 (by decide)) (W 21 (by decide)) (W 13 (by decide)) (W 5 (by decide))) slices_S520x128_o7_0_S512x128))
    (extractStridedSlice S512x128 ![6, 0] (seg4 e0 e1 e2 e3 (W 28 (by decide)) (W 20 (by decide)) (W 12 (by decide)) (W 4 (by decide))) slices_S520x128_o6_0_S512x128))
    (extractStridedSlice S512x128 ![5, 0] (seg4 e0 e1 e2 e3 (W 27 (by decide)) (W 19 (by decide)) (W 11 (by decide)) (W 3 (by decide))) slices_S520x128_o5_0_S512x128))
    (extractStridedSlice S512x128 ![4, 0] (seg4 e0 e1 e2 e3 (W 26 (by decide)) (W 18 (by decide)) (W 10 (by decide)) (W 2 (by decide))) slices_S520x128_o4_0_S512x128))
    (extractStridedSlice S512x128 ![3, 0] (seg4 e0 e1 e2 e3 (W 25 (by decide)) (W 17 (by decide)) (W 9 (by decide)) (W 1 (by decide))) slices_S520x128_o3_0_S512x128))
    (extractStridedSlice S512x128 ![2, 0] (seg4 e0 e1 e2 e3 (W 24 (by decide)) (W 16 (by decide)) (W 8 (by decide)) (W 0 (by decide))) slices_S520x128_o2_0_S512x128))
    (extractStridedSlice S512x128 ![1, 0] (seg3 e0 e1 e2 (W 23 (by decide)) (W 15 (by decide)) (W 7 (by decide))) slices_S520x128_o1_0_S512x128))
    (broadcastTo S512x128 (shapeCast S1x128 b shapeCasts_S1x128_S1x128) broadcasts_S1x128_S512x128)) shapeCasts_S512x128_S512x128

section
variable (arg6 : Memref sig .tc .vmem S31x2048 .f32) (f6 : arg6.view.ty.Contents (Elt Ideal))
  (arg7 : Memref sig .tc .vmem S1x2048 .f32) (f7 : arg7.view.ty.Contents (Elt Ideal)) (arg13 : Memref sig .tc .vmem S544x2048 .f32)

/-- The tile of 128 channels from channel `n` on, over the rows the stores `L` leave. -/
def tile (L : List (View.Piece (Elt Ideal) S544x2048 .f32)) (n : ℕ) (hn : n + 128 ≤ 2048) : FVec Ideal S512x128 .f32 :=
  tileOf (arg13.view.readCov L (Rect.unit (s := S544x2048) ![24, n] S520x128.size (inbExt 24 n (by decide) hn)).toLoadRect)
    (arg13.view.readCov L (Rect.unit (s := S544x2048) ![16, n] S520x128.size (inbExt 16 n (by decide) hn)).toLoadRect)
    (arg13.view.readCov L (Rect.unit (s := S544x2048) ![8, n] S520x128.size (inbExt 8 n (by decide) hn)).toLoadRect)
    (arg13.view.readCov L (Rect.unit (s := S544x2048) ![0, n] S520x128.size (inbExt 0 n (by decide) hn)).toLoadRect)
    (fun k hk => View.readAt (Elt Ideal) arg6.view (Rect.unit (s := S31x2048) ![k, n] S1x128.size (inbTap k n hk hn)).toLoadRect f6)
    (View.readAt (Elt Ideal) arg7.view (Rect.unit (s := S1x2048) ![0, n] S1x128.size (inbBias n hn)).toLoadRect f7)

/-- The first `k` tiles, the last stored first; tile `j` reads the stores `L j`. -/
def tiles (L : (k : ℕ) → k < 16 → List (View.Piece (Elt Ideal) S544x2048 .f32)) : (k : ℕ) → k ≤ 16 → List (View.Piece (Elt Ideal) S512x2048 .f32)
  | 0, _ => []
  | k + 1, hk => ⟨Rect.unit ![0, 128 * k] S512x128.size (inbTile (128 * k) (by omega)), tile arg6 f6 arg7 f7 arg13 (L k (by omega)) (128 * k) (by omega)⟩ ::
      tiles L k (by omega)
end

section A
variable (c : Dev nD) (arg2 : Memref sig .tc .vmem S512x2048 .f32) (harg2 : arg2.IsWhole) (arg3 : Memref sig .tc .vmem S1x2048 .f32) (harg3 : arg3.IsWhole)
  (arg4 : Memref sig .tc .vmem S2048x4096 .bf16) (harg4 : arg4.IsWhole) (arg5 : Memref sig .tc .vmem S1x4096 .f32) (harg5 : arg5.IsWhole)
  (arg6 : Memref sig .tc .vmem S31x2048 .f32) (harg6 : arg6.IsWhole) (arg7 : Memref sig .tc .vmem S1x2048 .f32) (harg7 : arg7.IsWhole)
  (arg13 : Memref sig .tc .vmem S544x2048 .f32) (harg13 : arg13.IsWhole)
  (x0 : Vec Ideal S512x2048 .f32) (x1 : Vec Ideal S1x2048 .f32) (x2 : Vec Ideal S2048x4096 .bf16) (x3 : Vec Ideal S1x4096 .f32)
  (x4 : Vec Ideal S31x2048 .f32) (x5 : Vec Ideal S1x2048 .f32) (xs0 : Vec Ideal S544x2048 .f32)

theorem hs0A : kernelRun0_A.sl.HS0_9 (F := Ideal) c arg2 harg2 arg3 harg3 arg4 harg4 arg5 harg5 x0 x1 x2 x3 =
    stripes arg4 (harg4.unread x2) arg5 (harg5.unread x3) (kernelRun0_A.sl.r_1 (F := Ideal) c arg2 harg2 arg3 harg3 x0 x1) k0_pay2 8 (by decide) := rfl

theorem hs0B : kernelRun0_B.sl.HS0_9 (F := Ideal) c arg2 harg2 arg3 harg3 arg4 harg4 arg5 harg5 arg13 harg13 x0 x1 x2 x3 xs0 =
    stripes arg4 (harg4.unread x2) arg5 (harg5.unread x3) (kernelRun0_B.sl.r_1 (F := Ideal) c arg2 harg2 arg3 harg3 x0 x1)
      (k0_pay3 (View.readAt (Elt Ideal) arg13.view (Rect.unit (s := S544x2048) ![512, 0] S32x2048.size inb_S544x2048_S32x2048_512_0).toLoadRect
          (harg13.unread xs0))) 8 (by decide) := rfl

theorem hs1A : kernelRun0_A.sl.HS1_16 (F := Ideal) c arg2 harg2 arg3 harg3 arg4 harg4 arg5 harg5 arg6 harg6 arg7 harg7 arg13 x0 x1 x2 x3 x4 x5 =
    tiles arg6 (harg6.unread x4) arg7 (harg7.unread x5) arg13 (fun k hk =>
      stripes arg4 (harg4.unread x2) arg5 (harg5.unread x3) (kernelRun0_A.sl.r_1 (F := Ideal) c arg2 harg2 arg3 harg3 x0 x1) k0_pay2 (k / 2 + 1) (by omega))
      16 (by decide) := rfl

theorem hs1B : kernelRun0_B.sl.HS1_16 (F := Ideal) c arg2 harg2 arg3 harg3 arg4 harg4 arg5 harg5 arg6 harg6 arg7 harg7 arg13 harg13 x0 x1 x2 x3 x4 x5 xs0 =
    tiles arg6 (harg6.unread x4) arg7 (harg7.unread x5) arg13 (fun k hk =>
      stripes arg4 (harg4.unread x2) arg5 (harg5.unread x3) (kernelRun0_B.sl.r_1 (F := Ideal) c arg2 harg2 arg3 harg3 x0 x1)
        (k0_pay3 (View.readAt (Elt Ideal) arg13.view (Rect.unit (s := S544x2048) ![512, 0] S32x2048.size inb_S544x2048_S32x2048_512_0).toLoadRect
          (harg13.unread xs0))) (k / 2 + 1) (by omega))
      16 (by decide) := rfl
end A

end Cert.Proof.Conv

end
-- ==== Proof.ConvStores.lean ====
module

public import proofs.«01_k».proof.Proof.ConvBody
public import proofs.«01_k».proof.Proof.MlpShared
public import Idealize.ShloMosaic.Lib.Pointwise

/-! The stripes, the tiles and the last product of the convolution kernel, entry by entry, and what its stores leave. -/

@[expose] public section

set_option maxRecDepth 65536

noncomputable section

namespace Cert.Proof.Conv

open Cert.Proof.Mlp Cert.ConvIdeal Cert.ConvIdeal.Gen Cert.ConvIdeal.Value Idealize.ShloMosaic Idealize.ShloMosaic.TcCoe Idealize.SL.Sem

/-- The gate of one stripe, entry by entry. -/
theorem gate_apply (xn : Vec Ideal S512x2048 .bf16) (wa : Vec Ideal S2048x256 .bf16) (ba : Vec Ideal S1x256 .f32) (wb : Vec Ideal S2048x256 .bf16)
    (bb : Vec Ideal S1x256 .f32) (r : Fin 512) (j : Fin 256) :
    gate xn wa ba wb bb (ix2 r j) = (∑ d, xn (ix2 r d) * wa (ix2 d j) + ba (ix2 0 j)) * Ideal.logistic (∑ d, xn (ix2 r d) * wb (ix2 d j) + bb (ix2 0 j)) := by
  pointwise [gate, k0_pay34]

/-- A tile, entry by entry: the thirty-one products in order, over rows that the four windows hold. -/
theorem tileOf_apply (e0 e1 e2 e3 : Vec Ideal S520x128 .f32) (W : (k : ℕ) → k < 31 → Vec Ideal S1x128 .f32) (b : Vec Ideal S1x128 .f32)
    (r : Fin 512) (j : Fin 128) (X : ℕ → EReal) (w : ℕ → EReal)
    (h0 : ∀ s (h : s < 520), e0 (ix2 ⟨s, h⟩ j) = X (24 + s)) (h1 : ∀ s (h : s < 520), e1 (ix2 ⟨s, h⟩ j) = X (16 + s))
    (h2 : ∀ s (h : s < 520), e2 (ix2 ⟨s, h⟩ j) = X (8 + s)) (h3 : ∀ s (h : s < 520), e3 (ix2 ⟨s, h⟩ j) = X (0 + s))
    (hW : ∀ k hk, W k hk (ix2 0 j) = w k) :
    tileOf e0 e1 e2 e3 W b (ix2 r j) = ∑ k ∈ Finset.range 31, X (2 + k + r.val) * w k + b (ix2 0 j) := by
  pointwise [tileOf, seg4, seg3, tapped]
  simp only [h0, h1, h2, h3, hW, ← Nat.add_assoc, Finset.sum_range_succ, Finset.sum_range_zero, zero_add, Nat.reduceAdd]
  congr 1
  abel

theorem xn_apply (x : Vec Ideal S512x2048 .f32) (g : Vec Ideal S1x2048 .f32) (r : Fin 512) (d : Fin 2048) :
    k0_pay5 x g (ix2 r d) = rms (fun d => x (ix2 r d)) (fun d => g (ix2 0 d)) d := by
  unfold rms
  pointwise [k0_pay5, k0_pay4]

theorem halo0_apply (r : Fin 32) (d : Fin 2048) : k0_pay2 (F := Ideal) (ix2 r d) = 0 := by
  pointwise [k0_pay2]

theorem halo1_apply (v : Vec Ideal S32x2048 .f32) (r : Fin 32) (d : Fin 2048) : k0_pay3 (F := Ideal) v (ix2 r d) = v (ix2 r d) := by
  pointwise [k0_pay3]

/-- A row centred on its mean. -/
def centred (v : Fin 2048 → EReal) (k : Fin 2048) : EReal := v k - Ideal.div (∑ d, v d) (Ideal.ofBits FTy.f32 0x45000000#32)

/-- A row normalised by its mean and variance, scaled and shifted. -/
def lnorm (v g b : Fin 2048 → EReal) (k : Fin 2048) : EReal :=
  centred v k * Ideal.rsqrt (Ideal.div (∑ d, centred v d * centred v d) (Ideal.ofBits FTy.f32 0x45000000#32) + Ideal.ofBits FTy.f32 0x3727C5AC#32) * g k + b k

/-- The row as the last product reads it: the normalised row by its own logistic. -/
def act (v g b : Fin 2048 → EReal) (k : Fin 2048) : EReal := lnorm v g b k * Ideal.logistic (lnorm v g b k)

theorem out_apply (cv : Vec Ideal S512x2048 .f32) (lg lb bo : Vec Ideal S1x2048 .f32) (x : Vec Ideal S512x2048 .f32) (w : Vec Ideal S2048x2048 .bf16)
    (r : Fin 512) (k : Fin 2048) :
    k0_pay1 (k0_pay220 (k0_pay218 cv) (k0_pay219 cv) lg lb) (k0_pay221 (k0_pay4 x) bo) (k0_pay222 w) (ix2 r k) =
      (x (ix2 r k) + bo (ix2 0 k)) + ∑ d, act (fun d => cv (ix2 r d)) (fun d => lg (ix2 0 d)) (fun d => lb (ix2 0 d)) d * w (ix2 d k) := by
  unfold act lnorm centred
  pointwise [k0_pay1, k0_pay220, k0_pay218, k0_pay219, k0_pay221, k0_pay222, k0_pay4]

/-! ## What the stores leave -/

section
variable (arg4 : Memref sig .tc .vmem S2048x4096 .bf16) (f4 : arg4.view.ty.Contents (Elt Ideal))
  (arg5 : Memref sig .tc .vmem S1x4096 .f32) (f5 : arg5.view.ty.Contents (Elt Ideal)) (xn : Vec Ideal S512x2048 .bf16)

/-- Where the stripes and the halo hold `X`, the buffer does. -/
theorem canon_stripes (halo : FVec Ideal S32x2048 .f32) (X : ℕ → ℕ → EReal)
    (hh : ∀ (q : Fin 32) (ch : Fin 2048), halo (ix2 q ch) = X q.val ch.val)
    (hs : ∀ n hn (r : Fin 512) (j : Fin 256), stripe arg4 f4 arg5 f5 xn n hn (ix2 r j) = X (32 + r.val) (n + j.val)) :
    ∀ (k : ℕ) (hk : k ≤ 8) (q : Fin 544) (ch : Fin 2048), (q.val < 32 ∨ ch.val < 256 * k) →
      View.canon (stripes arg4 f4 arg5 f5 xn halo k hk) (ix2 q ch) = X q.val ch.val := by
  intro k
  induction k with
  | zero =>
    intro hk q ch h
    have hq : q.val < 32 := by omega
    have e : ix2 q ch = (Rect.unit (s := S544x2048) ![0, 0] S32x2048.size inb_S544x2048_S32x2048_0_0).emb (ix2 (⟨q.val, hq⟩ : Fin 32) ch) := by
      funext a; fin_cases a
      · exact Fin.ext (show q.val = 0 + 1 * q.val by omega)
      · exact Fin.ext (show ch.val = 0 + 1 * ch.val by omega)
    rw [e, stripes, View.canon_cons_emb]
    exact hh ⟨q.val, hq⟩ ch
  | succ k ih =>
    intro hk q ch h
    by_cases hin : 32 ≤ q.val ∧ 256 * k ≤ ch.val
    · have e : ix2 q ch = (Rect.unit (s := S544x2048) ![32, 256 * k] S512x256.size (inbStripe (256 * k) (by omega))).emb
          (ix2 (⟨q.val - 32, by omega⟩ : Fin 512) (⟨ch.val - 256 * k, by omega⟩ : Fin 256)) := by
        funext a; fin_cases a
        · exact Fin.ext (show q.val = 32 + 1 * (q.val - 32) by omega)
        · exact Fin.ext (show ch.val = 256 * k + 1 * (ch.val - 256 * k) by omega)
      rw [e, stripes, View.canon_cons_emb, hs]
      congr 1
      · show 32 + (q.val - 32) = q.val; omega
      · show 256 * k + (ch.val - 256 * k) = ch.val; omega
    · rw [stripes, View.canon_cons_of_not_mem]
      · exact ih (by omega) q ch (by omega)
      · intro hm
        have hm' := (LoadRect.mem_set _).mp hm
        obtain ⟨j0, -, h0⟩ := hm' 0
        obtain ⟨j1, -, h1⟩ := hm' 1
        have h0' : q.val = 32 + 1 * j0 := h0
        have h1' : ch.val = 256 * k + 1 * j1 := h1
        omega
end

section
variable (arg6 : Memref sig .tc .vmem S31x2048 .f32) (f6 : arg6.view.ty.Contents (Elt Ideal))
  (arg7 : Memref sig .tc .vmem S1x2048 .f32) (f7 : arg7.view.ty.Contents (Elt Ideal)) (arg13 : Memref sig .tc .vmem S544x2048 .f32)

/-- Where the tiles hold `Z`, the buffer does. -/
theorem canon_tiles (L : (k : ℕ) → k < 16 → List (View.Piece (Elt Ideal) S544x2048 .f32)) (Z : ℕ → ℕ → EReal)
    (hs : ∀ k (hk : k < 16) (r : Fin 512) (j : Fin 128), tile arg6 f6 arg7 f7 arg13 (L k hk) (128 * k) (by omega) (ix2 r j) = Z r.val (128 * k + j.val)) :
    ∀ (k : ℕ) (hk : k ≤ 16) (q : Fin 512) (ch : Fin 2048), ch.val < 128 * k →
      View.canon (tiles arg6 f6 arg7 f7 arg13 L k hk) (ix2 q ch) = Z q.val ch.val := by
  intro k
  induction k with
  | zero => intro hk q ch h; omega
  | succ k ih =>
    intro hk q ch h
    by_cases hin : 128 * k ≤ ch.val
    · have e : ix2 q ch = (Rect.unit (s := S512x2048) ![0, 128 * k] S512x128.size (inbTile (128 * k) (by omega))).emb
          (ix2 q (⟨ch.val - 128 * k, by omega⟩ : Fin 128)) := by
        funext a; fin_cases a
        · exact Fin.ext (show q.val = 0 + 1 * q.val by omega)
        · exact Fin.ext (show ch.val = 128 * k + 1 * (ch.val - 128 * k) by omega)
      rw [e, tiles, View.canon_cons_emb, hs k (by omega)]
      congr 1
      show 128 * k + (ch.val - 128 * k) = ch.val; omega
    · rw [tiles, View.canon_cons_of_not_mem]
      · exact ih (by omega) q ch (by omega)
      · intro hm
        obtain ⟨j1, -, h1⟩ := (LoadRect.mem_set _).mp hm 1
        have h1' : ch.val = 128 * k + 1 * j1 := h1
        omega
end

/-! ## One grid point, from its blocks and its halo -/

/-- A gated row: one half of the first product by the logistic of the other half. -/
def gated (y : Fin 2048 → EReal) (w : Fin 2048 → Fin 4096 → EReal) (b : Fin 4096 → EReal) (ch : ℕ) (h : ch < 2048) : EReal :=
  (∑ d, y d * w d ⟨ch, by omega⟩ + b ⟨ch, by omega⟩) * Ideal.logistic (∑ d, y d * w d ⟨ch + 2048, by omega⟩ + b ⟨ch + 2048, by omega⟩)

/-- Row `k` of the taps, zero past the last. -/
def tapN (w : Fin 31 → Fin 2048 → EReal) (k : ℕ) (ch : Fin 2048) : EReal := if h : k < 31 then w ⟨k, h⟩ ch else 0

section
variable (arg2 : Memref sig .tc .vmem S512x2048 .f32) (harg2 : arg2.IsWhole) (arg3 : Memref sig .tc .vmem S1x2048 .f32) (harg3 : arg3.IsWhole)
  (arg4 : Memref sig .tc .vmem S2048x4096 .bf16) (harg4 : arg4.IsWhole) (arg5 : Memref sig .tc .vmem S1x4096 .f32) (harg5 : arg5.IsWhole)
  (arg6 : Memref sig .tc .vmem S31x2048 .f32) (harg6 : arg6.IsWhole) (arg7 : Memref sig .tc .vmem S1x2048 .f32) (harg7 : arg7.IsWhole)
  (arg8 : Memref sig .tc .vmem S1x2048 .f32) (harg8 : arg8.IsWhole) (arg9 : Memref sig .tc .vmem S1x2048 .f32) (harg9 : arg9.IsWhole)
  (arg10 : Memref sig .tc .vmem S2048x2048 .bf16) (harg10 : arg10.IsWhole) (arg11 : Memref sig .tc .vmem S1x2048 .f32) (harg11 : arg11.IsWhole)
  (arg13 : Memref sig .tc .vmem S544x2048 .f32) (arg14 : Memref sig .tc .vmem S512x2048 .f32)
  (x0 : Vec Ideal S512x2048 .f32) (x1 : Vec Ideal S1x2048 .f32) (x2 : Vec Ideal S2048x4096 .bf16) (x3 : Vec Ideal S1x4096 .f32)
  (x4 : Vec Ideal S31x2048 .f32) (x5 x6 x7 : Vec Ideal S1x2048 .f32) (x8 : Vec Ideal S2048x2048 .bf16) (x9 : Vec Ideal S1x2048 .f32)
  (halo : FVec Ideal S32x2048 .f32)

def normed : FVec Ideal S512x2048 .bf16 :=
  k0_pay5 (View.readAt (Elt Ideal) arg2.view (Rect.unit (s := S512x2048) ![0, 0] S512x2048.size inb_S512x2048_S512x2048_0_0).toLoadRect (harg2.unread x0))
    (View.readAt (Elt Ideal) arg3.view (Rect.unit (s := S1x2048) ![0, 0] S1x2048.size inb_S1x2048_S1x2048_0_0).toLoadRect (harg3.unread x1))

/-- The stores of the rows: `k` stripes over the halo. -/
def rowStores (k : ℕ) (hk : k ≤ 8) : List (View.Piece (Elt Ideal) S544x2048 .f32) :=
  stripes arg4 (harg4.unread x2) arg5 (harg5.unread x3) (normed arg2 harg2 arg3 harg3 x0 x1) halo k hk

/-- The convolution's rows, read back whole. -/
def convOf : Vec Ideal S512x2048 .f32 :=
  arg14.view.readCov (tiles arg6 (harg6.unread x4) arg7 (harg7.unread x5) arg13
    (fun k hk => rowStores arg2 harg2 arg3 harg3 arg4 harg4 arg5 harg5 x0 x1 x2 x3 halo (k / 2 + 1) (by omega)) 16 (by decide))
    (Rect.unit (s := S512x2048) ![0, 0] S512x2048.size inb_S512x2048_S512x2048_0_0).toLoadRect

/-- The block the point stores. -/
def outOf : FVec Ideal S512x2048 .f32 :=
  k0_pay1
    (k0_pay220 (k0_pay218 (convOf arg2 harg2 arg3 harg3 arg4 harg4 arg5 harg5 arg6 harg6 arg7 harg7 arg13 arg14 x0 x1 x2 x3 x4 x5 halo))
      (k0_pay219 (convOf arg2 harg2 arg3 harg3 arg4 harg4 arg5 harg5 arg6 harg6 arg7 harg7 arg13 arg14 x0 x1 x2 x3 x4 x5 halo))
      (View.readAt (Elt Ideal) arg8.view (Rect.unit (s := S1x2048) ![0, 0] S1x2048.size inb_S1x2048_S1x2048_0_0).toLoadRect (harg8.unread x6))
      (View.readAt (Elt Ideal) arg9.view (Rect.unit (s := S1x2048) ![0, 0] S1x2048.size inb_S1x2048_S1x2048_0_0).toLoadRect (harg9.unread x7)))
    (k0_pay221 (k0_pay4 (View.readAt (Elt Ideal) arg2.view (Rect.unit (s := S512x2048) ![0, 0] S512x2048.size inb_S512x2048_S512x2048_0_0).toLoadRect (harg2.unread x0)))
      (View.readAt (Elt Ideal) arg11.view (Rect.unit (s := S1x2048) ![0, 0] S1x2048.size inb_S1x2048_S1x2048_0_0).toLoadRect (harg11.unread x9)))
    (k0_pay222 (View.readAt (Elt Ideal) arg10.view (Rect.unit (s := S2048x2048) ![0, 0] S2048x2048.size inb_S2048x2048_S2048x2048_0_0).toLoadRect (harg10.unread x8)))

/-- A load of a rectangle from a whole buffer's given contents, at a rank-two index. -/
theorem load_apply {n0 n1 k0 k1 : ℕ} {e : EltTy} (a : Memref sig .tc .vmem ⟨2, ![n0, n1]⟩ e) (ha : a.IsWhole) (x : (⟨2, ![n0, n1]⟩ : Shape).Idx → Elt Ideal e)
    (o0 o1 : ℕ) (inb : ∀ i, (![o0, o1] : Fin 2 → Nat) i + (![k0, k1] : Fin 2 → Nat) i ≤ (⟨2, ![n0, n1]⟩ : Shape).size i)
    (r : Fin k0) (j : Fin k1) (h0 : o0 + r.val < n0) (h1 : o1 + j.val < n1) :
    View.readAt (Elt Ideal) a.view (Rect.unit (s := ⟨2, ![n0, n1]⟩) ![o0, o1] ![k0, k1] inb).toLoadRect (ha.unread x) (ix2 r j) =
      x (ix2 ⟨o0 + r.val, h0⟩ ⟨o1 + j.val, h1⟩) := by
  rw [View.readAt_eq_ld, Memref.IsWhole.read_unread]
  unfold View.ld
  congr 1
  funext i; fin_cases i
  · exact Fin.ext (show o0 + 1 * r.val = o0 + r.val by omega)
  · exact Fin.ext (show o1 + 1 * j.val = o1 + j.val by omega)

theorem normed_apply (r : Fin 512) (d : Fin 2048) :
    normed arg2 harg2 arg3 harg3 x0 x1 (ix2 r d) = rms (fun d => x0 (ix2 r d)) (fun d => x1 (ix2 0 d)) d := by
  unfold normed
  rw [xn_apply]
  congr 1
  · funext d
    refine (load_apply arg2 harg2 x0 0 0 _ r d (by omega) (by omega)).trans ?_
    congr 2 <;> exact Fin.ext (Nat.zero_add _)
  · funext d
    refine (load_apply arg3 harg3 x1 0 0 _ 0 d (by decide) (by omega)).trans ?_
    congr 2; exact Fin.ext (Nat.zero_add _)

theorem stripe_apply (xn : Vec Ideal S512x2048 .bf16) (n : ℕ) (hn : n + 256 ≤ 2048) (r : Fin 512) (j : Fin 256) :
    stripe arg4 (harg4.unread x2) arg5 (harg5.unread x3) xn n hn (ix2 r j) =
      gated (fun d => xn (ix2 r d)) (fun d ch => x2 (ix2 d ch)) (fun ch => x3 (ix2 0 ch)) (n + j.val) (by omega) := by
  have e2 : ∀ (n' : ℕ) (h : n' + 256 ≤ 4096) (d : Fin 2048),
      View.readAt (Elt Ideal) arg4.view (Rect.unit (s := S2048x4096) ![0, n'] ![2048, 256] (inbWin n' h)).toLoadRect (harg4.unread x2) (ix2 d j) =
        x2 (ix2 d ⟨n' + j.val, by omega⟩) := fun n' h d => by
    refine (load_apply arg4 harg4 x2 0 n' _ d j (by omega) (by omega)).trans ?_
    congr 2; exact Fin.ext (Nat.zero_add _)
  have e3 : ∀ (n' : ℕ) (h : n' + 256 ≤ 4096),
      View.readAt (Elt Ideal) arg5.view (Rect.unit (s := S1x4096) ![0, n'] ![1, 256] (inbBin n' h)).toLoadRect (harg5.unread x3) (ix2 0 j) =
        x3 (ix2 0 ⟨n' + j.val, by omega⟩) := fun n' h => load_apply arg5 harg5 x3 0 n' _ 0 j (by decide) (by omega)
  have ec : n + 2048 + j.val = n + j.val + 2048 := by omega
  unfold stripe gated
  rw [gate_apply]
  have half : ∀ (n' : ℕ) (h : n' + 256 ≤ 4096),
      (∑ d, xn (ix2 r d) * View.readAt (Elt Ideal) arg4.view (Rect.unit (s := S2048x4096) ![0, n'] ![2048, 256] (inbWin n' h)).toLoadRect (harg4.unread x2) (ix2 d j)) +
        View.readAt (Elt Ideal) arg5.view (Rect.unit (s := S1x4096) ![0, n'] ![1, 256] (inbBin n' h)).toLoadRect (harg5.unread x3) (ix2 0 j) =
      (∑ d, xn (ix2 r d) * x2 (ix2 d ⟨n' + j.val, by omega⟩)) + x3 (ix2 0 ⟨n' + j.val, by omega⟩) := fun n' h =>
    congrArg₂ (· + ·) (Finset.sum_congr rfl fun d _ => congrArg (xn (ix2 r d) * ·) (e2 n' h d)) (e3 n' h)
  refine congrArg₂ (· * ·) (half n (by omega)) (congrArg Ideal.logistic ((half (n + 2048) (by omega)).trans ?_))
  simp only [ec]

variable (X : ℕ → ℕ → EReal)
  (hh : ∀ (q : Fin 32) (ch : Fin 2048), halo (ix2 q ch) = X q.val ch.val)
  (hs : ∀ (r : Fin 512) (ch : ℕ) (h : ch < 2048), gated (rms (fun d => x0 (ix2 r d)) (fun d => x1 (ix2 0 d))) (fun d ch => x2 (ix2 d ch)) (fun ch => x3 (ix2 0 ch)) ch h = X (32 + r.val) ch)
include hh hs

/-- What the row buffer holds after `k` stripes, at the channels they cover. -/
theorem rows_apply (k : ℕ) (hk : k ≤ 8) (q : Fin 544) (ch : Fin 2048) (h : q.val < 32 ∨ ch.val < 256 * k) :
    View.canon (rowStores arg2 harg2 arg3 harg3 arg4 harg4 arg5 harg5 x0 x1 x2 x3 halo k hk) (ix2 q ch) = X q.val ch.val := by
  refine canon_stripes _ _ _ _ _ halo X hh (fun n hn r j => ?_) k hk q ch h
  rw [stripe_apply]
  simp only [normed_apply]
  exact hs r _ _

theorem conv_apply (r : Fin 512) (ch : Fin 2048) :
    convOf arg2 harg2 arg3 harg3 arg4 harg4 arg5 harg5 arg6 harg6 arg7 harg7 arg13 arg14 x0 x1 x2 x3 x4 x5 halo (ix2 r ch) =
      ∑ k ∈ Finset.range 31, X (2 + k + r.val) ch.val * tapN (fun k ch => x4 (ix2 k ch)) k ch + x5 (ix2 0 ch) := by
  unfold convOf
  rw [View.readCov_eq_canon']
  have e : (Rect.unit (s := S512x2048) ![0, 0] S512x2048.size inb_S512x2048_S512x2048_0_0).toLoadRect.idx (ix2 r ch) = ix2 r ch := by
    funext a; fin_cases a
    · exact Fin.ext (show 0 + 1 * r.val = r.val by omega)
    · exact Fin.ext (show 0 + 1 * ch.val = ch.val by omega)
  have hch := ch.isLt
  have key := canon_tiles arg6 (harg6.unread x4) arg7 (harg7.unread x5) arg13
    (fun k hk => rowStores arg2 harg2 arg3 harg3 arg4 harg4 arg5 harg5 x0 x1 x2 x3 halo (k / 2 + 1) (by omega))
    (fun r ch => if h : ch < 2048 then ∑ k ∈ Finset.range 31, X (2 + k + r) ch * tapN (fun k ch => x4 (ix2 k ch)) k ⟨ch, h⟩ + x5 (ix2 0 ⟨ch, h⟩) else 0)
    ?_ 16 (by decide) r ch (by omega)
  · dsimp only
    rw [e, key, dif_pos hch]
  · intro k hk r j
    have hc : 128 * k + j.val < 2048 := by omega
    rw [dif_pos hc]
    unfold tile
    have row : ∀ (a : ℕ) (ha : a + 520 ≤ 544) (s : ℕ) (h : s < 520),
        arg13.view.readCov (rowStores arg2 harg2 arg3 harg3 arg4 harg4 arg5 harg5 x0 x1 x2 x3 halo (k / 2 + 1) (by omega))
          (Rect.unit (s := S544x2048) ![a, 128 * k] S520x128.size (inbExt a (128 * k) ha (by omega))).toLoadRect (ix2 ⟨s, h⟩ j) = X (a + s) (128 * k + j.val) := by
      intro a ha s h
      rw [View.readCov_eq_canon']
      have e' : (Rect.unit (s := S544x2048) ![a, 128 * k] S520x128.size (inbExt a (128 * k) ha (by omega))).toLoadRect.idx (ix2 (⟨s, h⟩ : Fin 520) j) =
          ix2 (⟨a + s, by omega⟩ : Fin 544) (⟨128 * k + j.val, hc⟩ : Fin 2048) := by
        funext i; fin_cases i
        · exact Fin.ext (show a + 1 * s = a + s by omega)
        · exact Fin.ext (show 128 * k + 1 * j.val = 128 * k + j.val by omega)
      dsimp only
      rw [e']
      exact rows_apply arg2 harg2 arg3 harg3 arg4 harg4 arg5 harg5 x0 x1 x2 x3 halo X hh hs _ _ _ _ (Or.inr (by show 128 * k + j.val < _; omega))
    refine (tileOf_apply _ _ _ _ _ _ r j (fun q => X q (128 * k + j.val)) (fun i => tapN (fun k ch => x4 (ix2 k ch)) i ⟨128 * k + j.val, hc⟩)
      (row 24 (by decide)) (row 16 (by decide)) (row 8 (by decide)) (row 0 (by decide)) ?_).trans ?_
    rotate_left
    · exact congrArg (fun z => _ + z) (load_apply arg7 harg7 x5 0 (128 * k) _ 0 j (by decide) hc)
    · intro i hi
      rw [tapN, dif_pos hi]
      refine (load_apply arg6 harg6 x4 i (128 * k) _ 0 j (by exact hi) hc).trans ?_
      rfl

theorem outOf_apply (r : Fin 512) (k : Fin 2048) :
    outOf arg2 harg2 arg3 harg3 arg4 harg4 arg5 harg5 arg6 harg6 arg7 harg7 arg8 harg8 arg9 harg9 arg10 harg10 arg11 harg11 arg13 arg14
        x0 x1 x2 x3 x4 x5 x6 x7 x8 x9 halo (ix2 r k) =
      (x0 (ix2 r k) + x9 (ix2 0 k)) + ∑ d, act (fun ch : Fin 2048 => ∑ i ∈ Finset.range 31, X (2 + i + r.val) ch.val * tapN (fun k ch => x4 (ix2 k ch)) i ch + x5 (ix2 0 ch))
        (fun d => x6 (ix2 0 d)) (fun d => x7 (ix2 0 d)) d * x8 (ix2 d k) := by
  unfold outOf
  rw [out_apply]
  simp only [conv_apply arg2 harg2 arg3 harg3 arg4 harg4 arg5 harg5 arg6 harg6 arg7 harg7 arg13 arg14 x0 x1 x2 x3 x4 x5 halo X hh hs]
  have one : ∀ (a : Memref sig .tc .vmem S1x2048 .f32) (ha : a.IsWhole) (x : Vec Ideal S1x2048 .f32) (d : Fin 2048),
      View.readAt (Elt Ideal) a.view (Rect.unit (s := S1x2048) ![0, 0] S1x2048.size inb_S1x2048_S1x2048_0_0).toLoadRect (ha.unread x) (ix2 0 d) = x (ix2 0 d) :=
    fun a ha x d => by
      refine (load_apply a ha x 0 0 _ 0 d (by decide) (by omega)).trans ?_
      congr 2; exact Fin.ext (Nat.zero_add _)
  have sq : ∀ d : Fin 2048, View.readAt (Elt Ideal) arg10.view (Rect.unit (s := S2048x2048) ![0, 0] S2048x2048.size inb_S2048x2048_S2048x2048_0_0).toLoadRect (harg10.unread x8) (ix2 d k) = x8 (ix2 d k) :=
    fun d => by
      refine (load_apply arg10 harg10 x8 0 0 _ d k (by omega) (by omega)).trans ?_
      congr 2 <;> exact Fin.ext (Nat.zero_add _)
  have xr : View.readAt (Elt Ideal) arg2.view (Rect.unit (s := S512x2048) ![0, 0] S512x2048.size inb_S512x2048_S512x2048_0_0).toLoadRect (harg2.unread x0) (ix2 r k) = x0 (ix2 r k) := by
    refine (load_apply arg2 harg2 x0 0 0 _ r k (by omega) (by omega)).trans ?_
    congr 2 <;> exact Fin.ext (Nat.zero_add _)
  simp only [one, sq, xr]
end

end Cert.Proof.Conv

end
-- ==== Proof.Conv.lean ====
module

public import proofs.«01_k».proof.Proof.ConvStores
public import Idealize.ShloMosaic.Lib.Pointwise
public import Idealize.ShloMosaic.Lib.Pipeline.ValueKit

/-! The convolution call: at every index the kernel's result, computed 512 rows at a time with the last 32 gated rows carried
    from one block of a sequence to the next, is the stream plus the convolution module. -/

@[expose] public section

set_option maxRecDepth 65536

noncomputable section

namespace Cert.Proof.Conv

open Cert.Proof.Mlp Cert.ConvIdeal Cert.ConvIdeal.Gen Cert.ConvIdeal.Value Idealize.ShloMosaic Idealize.ShloMosaic.TcCoe Idealize.SL.Sem

variable (m : (ℓ : Loc nD τ sig) → Buf (Elt Ideal) ℓ)

/-! ## The blocks a point reads, as entries of the arguments -/

theorem idx_of : ∀ t : Fin grid0.N, win0_0.index t = ![t.val, 0] ∧ win0_1.index t = ![0, 0] ∧ win0_2.index t = ![0, 0] ∧
    win0_3.index t = ![0, 0] ∧ win0_4.index t = ![0, 0] ∧ win0_5.index t = ![0, 0] ∧ win0_6.index t = ![0, 0] ∧ win0_7.index t = ![0, 0] ∧
    win0_8.index t = ![0, 0] ∧ win0_9.index t = ![0, 0] := by decide +kernel

theorem blk0 (c : Dev nD) (t : Fin cfg0.N) (r : Fin 512) (d : Fin 2048) :
    iblk m c 0 t (ix2 r d) = m ((c : Thread nD τ).loc main_arg0)
      (ix3 ⟨(512 * t.val + r.val) / 2048, by have := t.isLt; have e : cfg0.N = 32 := N_0; omega⟩ ⟨(512 * t.val + r.val) % 2048, by omega⟩ d) := by
  blk_ext! [iblk, V, (idx_of t).1]

theorem blk1 (c : Dev nD) (t : Fin cfg0.N) (d : Fin 2048) :
    iblk m c 1 t (ix2 0 d) = m ((c : Thread nD τ).loc main_arg1) (ix2 0 d) := by
  blk_ext! [iblk, V, (idx_of t).2.1]

theorem blk2 (c : Dev nD) (t : Fin cfg0.N) (d : Fin 2048) (j : Fin 4096) :
    iblk m c 2 t (ix2 d j) = m ((c : Thread nD τ).loc main_arg2) (ix3 0 d j) := by
  blk_ext! [iblk, V, (idx_of t).2.2.1]

theorem blk3 (c : Dev nD) (t : Fin cfg0.N) (j : Fin 4096) :
    iblk m c 3 t (ix2 0 j) = m ((c : Thread nD τ).loc main_arg3) (ix2 0 j) := by
  blk_ext! [iblk, V, (idx_of t).2.2.2.1]

theorem blk4 (c : Dev nD) (t : Fin cfg0.N) (k : Fin 31) (d : Fin 2048) :
    iblk m c 4 t (ix2 k d) = m ((c : Thread nD τ).loc main_arg4) (ix3 0 k d) := by
  blk_ext! [iblk, V, (idx_of t).2.2.2.2.1]

theorem blk5 (c : Dev nD) (t : Fin cfg0.N) (d : Fin 2048) :
    iblk m c 5 t (ix2 0 d) = m ((c : Thread nD τ).loc main_arg5) (ix2 0 d) := by
  blk_ext! [iblk, V, (idx_of t).2.2.2.2.2.1]

theorem blk6 (c : Dev nD) (t : Fin cfg0.N) (d : Fin 2048) :
    iblk m c 6 t (ix2 0 d) = m ((c : Thread nD τ).loc main_arg6) (ix2 0 d) := by
  blk_ext! [iblk, V, (idx_of t).2.2.2.2.2.2.1]

theorem blk7 (c : Dev nD) (t : Fin cfg0.N) (d : Fin 2048) :
    iblk m c 7 t (ix2 0 d) = m ((c : Thread nD τ).loc main_arg7) (ix2 0 d) := by
  blk_ext! [iblk, V, (idx_of t).2.2.2.2.2.2.2.1]

theorem blk8 (c : Dev nD) (t : Fin cfg0.N) (d k : Fin 2048) :
    iblk m c 8 t (ix2 d k) = m ((c : Thread nD τ).loc main_arg8) (ix3 0 d k) := by
  blk_ext! [iblk, V, (idx_of t).2.2.2.2.2.2.2.2.1]

theorem blk9 (c : Dev nD) (t : Fin cfg0.N) (d : Fin 2048) :
    iblk m c 9 t (ix2 0 d) = m ((c : Thread nD τ).loc main_arg9) (ix2 0 d) := by
  blk_ext! [iblk, V, (idx_of t).2.2.2.2.2.2.2.2.2]

/-! ## The arguments, read by the numbers of their axes -/

/-- Position `s` of sequence `b` of the stream. -/
def xat (c : Dev nD) (b : Fin 8) (s d : Fin 2048) : EReal := m ((c : Thread nD τ).loc main_arg0) (ix3 b s d)
def gain (c : Dev nD) (d : Fin 2048) : EReal := m ((c : Thread nD τ).loc main_arg1) (ix2 0 d)
def win (c : Dev nD) (d : Fin 2048) (j : Fin 4096) : EReal := m ((c : Thread nD τ).loc main_arg2) (ix3 0 d j)
def bin (c : Dev nD) (j : Fin 4096) : EReal := m ((c : Thread nD τ).loc main_arg3) (ix2 0 j)
def wdw (c : Dev nD) (k : Fin 31) (d : Fin 2048) : EReal := m ((c : Thread nD τ).loc main_arg4) (ix3 0 k d)
def bdw (c : Dev nD) (d : Fin 2048) : EReal := m ((c : Thread nD τ).loc main_arg5) (ix2 0 d)
def lng (c : Dev nD) (d : Fin 2048) : EReal := m ((c : Thread nD τ).loc main_arg6) (ix2 0 d)
def lnb (c : Dev nD) (d : Fin 2048) : EReal := m ((c : Thread nD τ).loc main_arg7) (ix2 0 d)
def wout (c : Dev nD) (d k : Fin 2048) : EReal := m ((c : Thread nD τ).loc main_arg8) (ix3 0 d k)
def bout (c : Dev nD) (d : Fin 2048) : EReal := m ((c : Thread nD τ).loc main_arg9) (ix2 0 d)

/-- The gated rows of sequence `b` after 32 rows of zeros, by natural numbers: row `p`, channel `ch`. -/
def padded (c : Dev nD) (b p ch : ℕ) : EReal :=
  if h : 32 ≤ p ∧ p < 2080 ∧ b < 8 ∧ ch < 2048 then
    gated (rms (xat m c ⟨b, h.2.2.1⟩ ⟨p - 32, by omega⟩) (gain m c)) (win m c) (bin m c) ch h.2.2.2
  else 0

/-- The convolution at position `s` of sequence `b`: thirty-one taps over the rows up to `s`, and the bias. -/
def conv (c : Dev nD) (b s : ℕ) (ch : Fin 2048) : EReal :=
  ∑ i ∈ Finset.range 31, padded m c b (s + 2 + i) ch.val * tapN (wdw m c) i ch + bdw m c ch

/-- The stream after the convolution module. -/
def mid (c : Dev nD) (b : Fin 8) (s k : Fin 2048) : EReal :=
  (xat m c b s k + bout m c k) + ∑ d, act (conv m c b.val s.val) (lng m c) (lnb m c) d * wout m c d k

theorem padded_low (c : Dev nD) (b p ch : ℕ) (h : p < 32) : padded m c b p ch = 0 := dif_neg (fun h' => by omega)

/-- What a point's stripes hold. -/
theorem stripe_rows (c : Dev nD) (t : Fin cfg0.N) (r : Fin 512) (ch : ℕ) (h : ch < 2048) :
    gated (rms (fun d => iblk m c 0 t (ix2 r d)) (fun d => iblk m c 1 t (ix2 0 d))) (fun d ch => iblk m c 2 t (ix2 d ch)) (fun ch => iblk m c 3 t (ix2 0 ch)) ch h =
      padded m c (t.val / 4) (512 * (t.val % 4) + (32 + r.val)) ch := by
  have := t.isLt; have e : cfg0.N = 32 := N_0
  rw [padded, dif_pos (by omega)]
  simp only [blk0, blk1, blk2, blk3]
  have eb : (512 * t.val + r.val) / 2048 = t.val / 4 := by omega
  have es : (512 * t.val + r.val) % 2048 = 512 * (t.val % 4) + (32 + r.val) - 32 := by omega
  simp only [eb, es]
  rfl

/-! ## What one point leaves -/

/-- The halo of a point: zeros at the first block of a sequence, -/
def haloA : FVec Ideal S32x2048 .f32 := k0_pay2

/-- the last 32 rows of the buffer at the others. -/
def haloB (xs0 : Vec Ideal S544x2048 .f32) : FVec Ideal S32x2048 .f32 :=
  k0_pay3 (View.readAt (Elt Ideal) scM0_0.view (Rect.unit (s := S544x2048) ![512, 0] S32x2048.size inb_S544x2048_S32x2048_512_0).toLoadRect
    ((Memref.isWhole_whole cc0_scratch0).unread xs0))

/-- The pair a point leaves, over its halo. -/
def leaves (c : Dev nD) (t : Fin cfg0.N) (halo : FVec Ideal S32x2048 .f32) : Vec Ideal S512x2048 .f32 × Vec Ideal S544x2048 .f32 :=
  (outOf (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (ms0_7 t) (hs0_7 t) (ms0_8 t) (hs0_8 t) (ms0_9 t) (hs0_9 t) scM0_0 scM0_1
      (iblk m c 0 t) (iblk m c 1 t) (iblk m c 2 t) (iblk m c 3 t) (iblk m c 4 t) (iblk m c 5 t) (iblk m c 6 t) (iblk m c 7 t) (iblk m c 8 t) (iblk m c 9 t) halo,
   View.canon (rowStores (ms0_0 t) (hs0_0 t) (ms0_1 t) (hs0_1 t) (ms0_2 t) (hs0_2 t) (ms0_3 t) (hs0_3 t)
      (iblk m c 0 t) (iblk m c 1 t) (iblk m c 2 t) (iblk m c 3 t) halo 8 (by decide)))

theorem whole_canon (L : FVec Ideal S512x2048 .f32) :
    View.canon (Val := Elt Ideal) (e := .f32) [⟨Rect.unit (s := S512x2048) ![0, 0] ![512, 2048] inb_S512x2048_S512x2048_0_0, L⟩] = L := by
  funext i
  have e : i = (Rect.unit (s := S512x2048) ![0, 0] ![512, 2048] inb_S512x2048_S512x2048_0_0).emb i := by
    funext a; fin_cases a
    · exact Fin.ext (show (i 0).val = 0 + 1 * (i 0).val by omega)
    · exact Fin.ext (show (i 1).val = 0 + 1 * (i 1).val by omega)
  conv_lhs => rw [e]
  exact View.canon_cons_emb _ _ _ _

theorem stepA (c : Dev nD) (t : Fin cfg0.N) (acc : Vec Ideal S512x2048 .f32 × Vec Ideal S544x2048 .f32) (h0 : t.val % 4 = 0) (h1 : ¬1 ≤ t.val % 4) :
    stAt0 m c t.val t.isLt acc = leaves m c t haloA := by
  rw [stAt0_A m c t acc h0 h1]
  refine Prod.ext ?_ ?_
  · dsimp only
    unfold out0_A_10
    rw [View.read_writes_junk_eq_canon]
    unfold kernelRun0_A
    dsimp only
    rw [whole_canon]
    rfl
  · dsimp only
    unfold sout0_A_0
    rw [View.read_writes_junk_eq_canon]
    unfold kernelRun0_A
    dsimp only
    rw [hs0A]
    rfl

theorem stepB (c : Dev nD) (t : Fin cfg0.N) (acc : Vec Ideal S512x2048 .f32 × Vec Ideal S544x2048 .f32) (h0 : ¬t.val % 4 = 0) (h1 : 1 ≤ t.val % 4) :
    stAt0 m c t.val t.isLt acc = leaves m c t (haloB acc.2) := by
  rw [stAt0_B m c t acc h0 h1]
  refine Prod.ext ?_ ?_
  · dsimp only
    unfold out0_B_10
    rw [View.read_writes_junk_eq_canon]
    unfold kernelRun0_B
    dsimp only
    rw [whole_canon]
    rfl
  · dsimp only
    unfold sout0_B_0
    rw [View.read_writes_junk_eq_canon]
    unfold kernelRun0_B
    dsimp only
    rw [hs0B]
    rfl

/-- What the row buffer and the output block hold after a point. -/
def Holds (c : Dev nD) (t : Fin cfg0.N) (p : Vec Ideal S512x2048 .f32 × Vec Ideal S544x2048 .f32) : Prop :=
  (∀ (r : Fin 512) (k : Fin 2048), p.1 (ix2 r k) = (xat m c ⟨(512 * t.val + r.val) / 2048, by have := t.isLt; have e : cfg0.N = 32 := N_0; omega⟩ ⟨(512 * t.val + r.val) % 2048, by omega⟩ k + bout m c k) +
      ∑ d, act (conv m c (t.val / 4) (512 * (t.val % 4) + r.val)) (lng m c) (lnb m c) d * wout m c d k)
  ∧ ∀ (q : Fin 544) (ch : Fin 2048), p.2 (ix2 q ch) = padded m c (t.val / 4) (512 * (t.val % 4) + q.val) ch.val

theorem holds_leaves (c : Dev nD) (t : Fin cfg0.N) (halo : FVec Ideal S32x2048 .f32)
    (hh : ∀ (q : Fin 32) (ch : Fin 2048), halo (ix2 q ch) = padded m c (t.val / 4) (512 * (t.val % 4) + q.val) ch.val) :
    Holds m c t (leaves m c t halo) := by
  refine ⟨fun r k => ?_, fun q ch => ?_⟩
  · unfold leaves
    dsimp only
    refine (outOf_apply _ _ _ _ _ _ _ _ _ _ _ _ _ _ _ _ _ _ _ _ _ _ _ _ _ _ _ _ _ _ _ _ halo
      (fun q ch => padded m c (t.val / 4) (512 * (t.val % 4) + q) ch) hh (stripe_rows m c t) r k).trans ?_
    simp only [blk0, blk4, blk5, blk6, blk7, blk8, blk9]
    have er : ∀ i, 512 * (t.val % 4) + (2 + i + r.val) = 512 * (t.val % 4) + r.val + 2 + i := fun i => by omega
    simp only [er]
    rfl
  · exact rows_apply _ _ _ _ _ _ _ _ _ _ _ _ halo (fun q ch => padded m c (t.val / 4) (512 * (t.val % 4) + q) ch) hh (stripe_rows m c t) 8 (by decide) q ch
      (Or.inr (by have := ch.isLt; omega))

theorem haloA_apply (c : Dev nD) (t : Fin cfg0.N) (h0 : t.val % 4 = 0) (q : Fin 32) (ch : Fin 2048) :
    haloA (ix2 q ch) = padded m c (t.val / 4) (512 * (t.val % 4) + q.val) ch.val := by
  rw [haloA, halo0_apply, padded_low]
  omega

theorem haloB_apply (xs0 : Vec Ideal S544x2048 .f32) (q : Fin 32) (ch : Fin 2048) : haloB xs0 (ix2 q ch) = xs0 (ix2 ⟨512 + q.val, by omega⟩ ch) := by
  rw [haloB, halo1_apply]
  refine (load_apply scM0_0 (Memref.isWhole_whole cc0_scratch0) xs0 512 0 _ q ch (by omega) (by omega)).trans ?_
  congr 2; exact Fin.ext (Nat.zero_add _)

theorem holds (c : Dev nD) : ∀ (n : ℕ) (hn : n < cfg0.N), Holds m c ⟨n, hn⟩ (outsAt0 m c n hn) := by
  intro n
  induction n with
  | zero =>
    intro hn
    rw [outsAt0_zero]
    have e := stepA m c ⟨0, hn⟩ junk0 rfl (show ¬1 ≤ 0 % 4 by decide)
    dsimp only at e
    rw [e]
    exact holds_leaves m c ⟨0, hn⟩ _ (haloA_apply m c ⟨0, hn⟩ rfl)
  | succ n ih =>
    intro hn
    have hp := ih (Nat.lt_of_succ_lt hn)
    rw [outsAt0_succ]
    by_cases h0 : (n + 1) % 4 = 0
    · have e := stepA m c ⟨n + 1, hn⟩ (outsAt0 m c n (Nat.lt_of_succ_lt hn)) h0 (by dsimp only; omega)
      dsimp only at e
      rw [e]
      exact holds_leaves m c ⟨n + 1, hn⟩ _ (haloA_apply m c ⟨n + 1, hn⟩ h0)
    · have e := stepB m c ⟨n + 1, hn⟩ (outsAt0 m c n (Nat.lt_of_succ_lt hn)) h0 (by dsimp only; omega)
      dsimp only at e
      rw [e]
      refine holds_leaves m c ⟨n + 1, hn⟩ _ fun q ch => ?_
      rw [haloB_apply, hp.2]
      dsimp only
      have e1 : n / 4 = (n + 1) / 4 := by omega
      have e2 : 512 * (n % 4) + (512 + q.val) = 512 * ((n + 1) % 4) + q.val := by omega
      rw [e1, e2]

theorem value (c : Dev nD) (i : S16384x2048.Idx) (R : ℕ) (hR : R < 16384) (k : Fin 2048) (hi : i = ix2 ⟨R, hR⟩ k) :
    G10 m c i = mid m c ⟨R / 2048, by omega⟩ ⟨R % 2048, by omega⟩ k := by
  subst hi
  have hr : run10Of (ix2 (⟨R, hR⟩ : Fin 16384) k) = R / 512 := by
    show 1 * (R / 512 - 0) + 1 * (k.val / 2048 - 0) = _
    omega
  have hlt : pt10Of (ix2 (⟨R, hR⟩ : Fin 16384) k) < cfg0.N := by show run10Of _ < _; rw [hr]; have e : cfg0.N = 32 := N_0; omega
  have hl : loc10Of (ix2 (⟨R, hR⟩ : Fin 16384) k) = ix2 ⟨R % 512, by omega⟩ k := by
    funext a
    fin_cases a
    · rfl
    · exact Fin.ext (show k.val % 2048 = k.val by omega)
  unfold G10
  rw [dif_pos hlt, hl]
  have e := outsAt0_sweep m c _ hlt
  rw [← e, (holds m c _ hlt).1]
  have hp : pt10Of (ix2 (⟨R, hR⟩ : Fin 16384) k) = R / 512 := hr
  have eb : R / 512 / 4 = R / 2048 := by omega
  have es : 512 * (R / 512 % 4) + R % 512 = R % 2048 := by omega
  have ex : 512 * (R / 512) + R % 512 = R := by omega
  simp only [hp, eb, es, ex]
  rfl

end Cert.Proof.Conv

end
-- ==== Proof.ConvRef.lean ====
module

public import proofs.«01_k».proof.Proof.Gen.ConvReferenceIdeal.Run
public import proofs.«01_k».proof.Proof.Gen.ConvReferenceIdeal.Read
public import proofs.«01_k».proof.Proof.Conv
public import Idealize.ShloMosaic.Lib.Pointwise

/-! The convolution module's reference, entry by entry, and the result's equality at every index. -/

@[expose] public section

set_option maxRecDepth 65536

noncomputable section

namespace Cert.Proof.Conv

open Cert.Proof.Mlp Idealize.ShloMosaic Idealize.ShloMosaic.TcCoe Idealize.SL.Sem
open Cert.ConvReferenceIdeal Cert.ConvReferenceIdeal.Gen Cert.ConvReferenceIdeal.Read

variable (x0 : (⟨S8x2048x2048, .f32⟩ : BufTy).Contents (Elt Ideal)) (x1 : (⟨S2x2048, .f32⟩ : BufTy).Contents (Elt Ideal))
  (x2 : (⟨S1x2048x4096, .f32⟩ : BufTy).Contents (Elt Ideal)) (x3 : (⟨S1x4096, .f32⟩ : BufTy).Contents (Elt Ideal))
  (x4 : (⟨S1x31x2048, .f32⟩ : BufTy).Contents (Elt Ideal)) (x5 x6 x7 : (⟨S1x2048, .f32⟩ : BufTy).Contents (Elt Ideal))
  (x8 : (⟨S1x2048x2048, .f32⟩ : BufTy).Contents (Elt Ideal)) (x9 : (⟨S1x2048, .f32⟩ : BufTy).Contents (Elt Ideal))

theorem ref_xn (b : Fin 8) (s d : Fin 2048) :
    val_main_v14 (F := Ideal) x0 x1 (ix3 b s d) = rms (fun d => x0 (ix3 b s d)) (fun d => x1 (ix2 0 d)) d := by
  unfold rms
  pointwise [val_main_v14, val_main_v11, val_main_v10, val_main_v9, val_main_v8, val_main_v7, val_main_v6, val_main_v5, val_main_v4, val_main_v3, val_main_v2, val_main_v1, val_main_v0, val_main_v13, val_main_v12, val_main_cst, val_main_cst_0, val_main_cst_1]

theorem ref_gated (b : Fin 8) (s d : Fin 2048) :
    val_main_v35 (F := Ideal) x0 x1 x2 x3 (ix3 b s d) =
      gated (fun d => val_main_v14 (F := Ideal) x0 x1 (ix3 b s d)) (fun d j => x2 (ix3 0 d j)) (fun j => x3 (ix2 0 j)) d.val d.isLt := by
  unfold gated Ideal.logistic
  pointwise [val_main_v35, val_main_v34, val_main_v33, val_main_v32, val_main_v31, val_main_v30, val_main_v29, val_main_v28, val_main_v27, val_main_v26, val_main_v25, val_main_v24, val_main_v23, val_main_v16, val_main_v15, val_main_cst_2, val_main_cst_3]
  simp only [Nat.add_comm 2048 d.val]

theorem ref_pad (b : Fin 8) (p : Fin 2078) (d : Fin 2048) :
    val_main_v36 (F := Ideal) x0 x1 x2 x3 (ix3 b p d) = if h : 30 ≤ p.val then val_main_v35 (F := Ideal) x0 x1 x2 x3 (ix3 b ⟨p.val - 30, by omega⟩ d) else 0 := by
  pointwise [val_main_v36, val_main_call0_v0, val_main_c]
  by_cases h : 30 ≤ p.val
  · rw [dif_pos h, dif_pos ⟨h, by omega⟩]
  · rw [dif_neg h, dif_neg (fun h' => h h'.1)]
    show (((0#32 : BitVec 32).toInt : ℝ) : EReal) = 0
    norm_num

theorem slicesRow (k : ℕ) (hk : k < 31) : S8x2078x2048.Slices ![0, k, 0] S8x2048x2048 := ⟨rfl, fun a => by
  fin_cases a
  · exact Nat.le_refl 8
  · show k + 2048 ≤ 2078; omega
  · exact Nat.le_refl 2048⟩

theorem slicesTap (k : ℕ) (hk : k < 31) : S31x2048.Slices ![k, 0] S1x2048 := ⟨rfl, fun a => by
  fin_cases a
  · exact hk
  · exact Nat.le_refl 2048⟩

/-- The first `k` shifted products, summed from zero on. -/
def shifted (u : (⟨S8x2078x2048, .f32⟩ : BufTy).Contents (Elt Ideal)) (w : (⟨S31x2048, .f32⟩ : BufTy).Contents (Elt Ideal)) :
    (k : ℕ) → k ≤ 31 → (⟨S8x2048x2048, .f32⟩ : BufTy).Contents (Elt Ideal)
  | 0, _ => broadcastInDim S8x2048x2048 ![] bcast_S_S8x2048x2048 (constant (F := Ideal) S_ .f32 0x00000000#32)
  | k + 1, hk => addf (F := Ideal) (φ := .f32) (shifted u w k (by omega))
      (mulf (F := Ideal) (φ := .f32) (extractStridedSlice S8x2048x2048 ![0, k, 0] u (slicesRow k (by omega)))
        (broadcastInDim S8x2048x2048 ![0, 1, 2] bcast_S1x1x2048_S8x2048x2048_0_1_2 (broadcastInDim S1x1x2048 ![2] bcast_S2048_S1x1x2048_2
          (shapeCast _ (extractStridedSlice S1x2048 ![k, 0] w (slicesTap k (by omega))) shapeCasts_S1x2048_S2048))))

theorem ref_shifted : val_main_v254 (F := Ideal) x0 x1 x2 x3 x4 =
    shifted (val_main_v36 (F := Ideal) x0 x1 x2 x3) (val_main_v17 (F := Ideal) x4) 31 (by decide) := rfl

theorem shifted_apply (u : (⟨S8x2078x2048, .f32⟩ : BufTy).Contents (Elt Ideal)) (w : (⟨S31x2048, .f32⟩ : BufTy).Contents (Elt Ideal))
    (b : Fin 8) (s d : Fin 2048) (U : ℕ → EReal) (hU : ∀ p : Fin 2078, u (ix3 b p d) = U p.val) : ∀ (k : ℕ) (hk : k ≤ 31),
    shifted u w k hk (ix3 b s d) = ∑ i ∈ Finset.range k, U (s.val + i) * tapN (fun k ch => w (ix2 k ch)) i d := by
  intro k
  induction k with
  | zero =>
    intro hk
    rw [Finset.sum_range_zero]
    pointwise [shifted]
  | succ k ih =>
    intro hk
    rw [Finset.sum_range_succ, ← ih (by omega), tapN, dif_pos (by omega)]
    pointwise [shifted]
    rw [hU]
    simp only [Nat.add_comm k s.val]

theorem ref_tap (k : Fin 31) (d : Fin 2048) : val_main_v17 (F := Ideal) x4 (ix2 k d) = x4 (ix3 0 k d) := by
  pointwise [val_main_v17]

theorem ref_act (b : Fin 8) (s d : Fin 2048) :
    val_main_v280 (F := Ideal) x0 x1 x2 x3 x4 x5 x6 x7 (ix3 b s d) =
      act (fun d => val_main_v257 (F := Ideal) x0 x1 x2 x3 x4 x5 (ix3 b s d)) (fun d => x6 (ix2 0 d)) (fun d => x7 (ix2 0 d)) d := by
  unfold act lnorm centred Ideal.logistic
  pointwise [val_main_v280, val_main_call1_v5, val_main_call1_v4, val_main_call1_v3, val_main_call1_v2, val_main_call1_v1, val_main_call1_v0, val_main_call1_cst, val_main_call1_cst_0, val_main_v279, val_main_v278, val_main_v277, val_main_v276, val_main_v275, val_main_v274, val_main_v273, val_main_v272, val_main_v271, val_main_v270, val_main_v269, val_main_v268, val_main_v267, val_main_v266, val_main_v265, val_main_v264, val_main_v263, val_main_v262, val_main_v261, val_main_v260, val_main_v259, val_main_v258, val_main_v20, val_main_v19, val_main_cst_5, val_main_cst_6, val_main_cst_7, val_main_cst_8, val_main_cst_9]

theorem ref_conv (b : Fin 8) (s d : Fin 2048) :
    val_main_v257 (F := Ideal) x0 x1 x2 x3 x4 x5 (ix3 b s d) = val_main_v254 (F := Ideal) x0 x1 x2 x3 x4 (ix3 b s d) + x5 (ix2 0 d) := by
  pointwise [val_main_v257, val_main_v256, val_main_v255, val_main_v18]

theorem ref_mid (b : Fin 8) (s k : Fin 2048) :
    val_main_v285 (F := Ideal) x0 x1 x2 x3 x4 x5 x6 x7 x8 x9 (ix3 b s k) =
      x0 (ix3 b s k) + (∑ d, val_main_v280 (F := Ideal) x0 x1 x2 x3 x4 x5 x6 x7 (ix3 b s d) * x8 (ix3 0 d k) + x9 (ix2 0 k)) := by
  pointwise [val_main_v285, val_main_v284, val_main_v283, val_main_v282, val_main_v281, val_main_v22, val_main_v21]

theorem ref_last (R : Fin 16384) (k : Fin 2048) :
    val_main_v286 (F := Ideal) x0 x1 x2 x3 x4 x5 x6 x7 x8 x9 (ix2 R k) =
      val_main_v285 (F := Ideal) x0 x1 x2 x3 x4 x5 x6 x7 x8 x9 (ix3 ⟨R.val / 2048, by omega⟩ ⟨R.val % 2048, by omega⟩ k) := by
  pointwise [val_main_v286]

/-! ## The two programs' results -/

section
variable (m : (ℓ : Loc Cert.ConvIdeal.nD Cert.ConvIdeal.τ Cert.ConvIdeal.sig) → Buf (Elt Ideal) ℓ) (c : Dev Cert.ConvIdeal.nD)

/-- The reference's gated rows after its 30 rows of zeros are the kernel's after 32. -/
theorem pad_eq (h0 : x0 = m ((c : Thread Cert.ConvIdeal.nD Cert.ConvIdeal.τ).loc Cert.ConvIdeal.main_arg0)) (h1 : x1 = m ((c : Thread Cert.ConvIdeal.nD Cert.ConvIdeal.τ).loc Cert.ConvIdeal.main_arg1))
    (h2 : x2 = m ((c : Thread Cert.ConvIdeal.nD Cert.ConvIdeal.τ).loc Cert.ConvIdeal.main_arg2)) (h3 : x3 = m ((c : Thread Cert.ConvIdeal.nD Cert.ConvIdeal.τ).loc Cert.ConvIdeal.main_arg3))
    (b : Fin 8) (d : Fin 2048) (p : Fin 2078) :
    val_main_v36 (F := Ideal) x0 x1 x2 x3 (ix3 b p d) = padded m c b.val (p.val + 2) d.val := by
  rw [ref_pad]
  by_cases h : 30 ≤ p.val
  · rw [dif_pos h, padded, dif_pos (by omega), ref_gated]
    simp only [ref_xn]
    subst h0; subst h1; subst h2; subst h3
    have e : p.val + 2 - 32 = p.val - 30 := by omega
    simp only [e]
    rfl
  · rw [dif_neg h, padded_low]
    omega

theorem mid_eq (h0 : x0 = m ((c : Thread Cert.ConvIdeal.nD Cert.ConvIdeal.τ).loc Cert.ConvIdeal.main_arg0)) (h1 : x1 = m ((c : Thread Cert.ConvIdeal.nD Cert.ConvIdeal.τ).loc Cert.ConvIdeal.main_arg1))
    (h2 : x2 = m ((c : Thread Cert.ConvIdeal.nD Cert.ConvIdeal.τ).loc Cert.ConvIdeal.main_arg2)) (h3 : x3 = m ((c : Thread Cert.ConvIdeal.nD Cert.ConvIdeal.τ).loc Cert.ConvIdeal.main_arg3))
    (h4 : x4 = m ((c : Thread Cert.ConvIdeal.nD Cert.ConvIdeal.τ).loc Cert.ConvIdeal.main_arg4)) (h5 : x5 = m ((c : Thread Cert.ConvIdeal.nD Cert.ConvIdeal.τ).loc Cert.ConvIdeal.main_arg5))
    (h6 : x6 = m ((c : Thread Cert.ConvIdeal.nD Cert.ConvIdeal.τ).loc Cert.ConvIdeal.main_arg6)) (h7 : x7 = m ((c : Thread Cert.ConvIdeal.nD Cert.ConvIdeal.τ).loc Cert.ConvIdeal.main_arg7))
    (h8 : x8 = m ((c : Thread Cert.ConvIdeal.nD Cert.ConvIdeal.τ).loc Cert.ConvIdeal.main_arg8)) (h9 : x9 = m ((c : Thread Cert.ConvIdeal.nD Cert.ConvIdeal.τ).loc Cert.ConvIdeal.main_arg9))
    (b : Fin 8) (s k : Fin 2048) :
    val_main_v285 (F := Ideal) x0 x1 x2 x3 x4 x5 x6 x7 x8 x9 (ix3 b s k) = mid m c b s k := by
  have ec : (fun d => val_main_v257 (F := Ideal) x0 x1 x2 x3 x4 x5 (ix3 b s d)) = conv m c b.val s.val := by
    funext d
    rw [ref_conv, ref_shifted]
    refine (congrArg (· + x5 (ix2 0 d)) (shifted_apply _ _ b s d (fun p => padded m c b.val (p + 2) d.val) (pad_eq x0 x1 x2 x3 m c h0 h1 h2 h3 b d) 31 (by decide))).trans ?_
    unfold conv
    have ei : ∀ i, s.val + i + 2 = s.val + 2 + i := fun i => by omega
    simp only [ref_tap, ei]
    subst h4; subst h5
    rfl
  rw [ref_mid, mid]
  simp only [ref_act, ec]
  subst h0; subst h6; subst h7; subst h8; subst h9
  rw [add_assoc, add_comm (bout m c k)]
  rfl
end

/-- The result, at every index: the reference's is the kernel's. -/
theorem result_eq (m : (ℓ : Loc Cert.ConvIdeal.nD Cert.ConvIdeal.τ Cert.ConvIdeal.sig) → Buf (Elt Ideal) ℓ) (c : Dev Cert.ConvIdeal.nD)
    (h0 : x0 = m ((c : Thread Cert.ConvIdeal.nD Cert.ConvIdeal.τ).loc Cert.ConvIdeal.main_arg0)) (h1 : x1 = m ((c : Thread Cert.ConvIdeal.nD Cert.ConvIdeal.τ).loc Cert.ConvIdeal.main_arg1))
    (h2 : x2 = m ((c : Thread Cert.ConvIdeal.nD Cert.ConvIdeal.τ).loc Cert.ConvIdeal.main_arg2)) (h3 : x3 = m ((c : Thread Cert.ConvIdeal.nD Cert.ConvIdeal.τ).loc Cert.ConvIdeal.main_arg3))
    (h4 : x4 = m ((c : Thread Cert.ConvIdeal.nD Cert.ConvIdeal.τ).loc Cert.ConvIdeal.main_arg4)) (h5 : x5 = m ((c : Thread Cert.ConvIdeal.nD Cert.ConvIdeal.τ).loc Cert.ConvIdeal.main_arg5))
    (h6 : x6 = m ((c : Thread Cert.ConvIdeal.nD Cert.ConvIdeal.τ).loc Cert.ConvIdeal.main_arg6)) (h7 : x7 = m ((c : Thread Cert.ConvIdeal.nD Cert.ConvIdeal.τ).loc Cert.ConvIdeal.main_arg7))
    (h8 : x8 = m ((c : Thread Cert.ConvIdeal.nD Cert.ConvIdeal.τ).loc Cert.ConvIdeal.main_arg8)) (h9 : x9 = m ((c : Thread Cert.ConvIdeal.nD Cert.ConvIdeal.τ).loc Cert.ConvIdeal.main_arg9)) :
    val_main_v286 (F := Ideal) x0 x1 x2 x3 x4 x5 x6 x7 x8 x9 = Cert.ConvIdeal.Value.G10 m c := by
  funext i
  obtain ⟨R, k, hi⟩ : ∃ (R : Fin 16384) (k : Fin 2048), i = ix2 R k := ⟨i 0, i 1, by funext a; fin_cases a <;> rfl⟩
  refine Eq.trans ?_ (value m c i R.val R.isLt k hi).symm
  rw [hi, ref_last]
  exact mid_eq x0 x1 x2 x3 x4 x5 x6 x7 x8 x9 m c h0 h1 h2 h3 h4 h5 h6 h7 h8 h9 _ _ k

end Cert.Proof.Conv

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.MlpFirst
public import proofs.«01_k».proof.Proof.Gen.MlpFirst.Skeleton
public import proofs.«01_k».proof.Proof.Gen.MlpFirst.Launch
public import proofs.«01_k».proof.Proof.Gen.MlpFirst.Points
public import proofs.«01_k».proof.Proof.Gen.MlpFirst.Frame
public import proofs.«01_k».proof.Proof.Gen.MlpFirstIdeal
public import proofs.«01_k».proof.Proof.Gen.MlpFirstIdeal.Skeleton
public import proofs.«01_k».proof.Proof.Gen.MlpFirstIdeal.Launch
public import proofs.«01_k».proof.Proof.Gen.MlpFirstIdeal.Points
public import proofs.«01_k».proof.Proof.Gen.MlpFirstIdeal.Frame
public import proofs.«01_k».proof.Proof.Gen.MlpFirstIdeal.Value
public import proofs.«01_k».proof.Proof.Gen.MlpFirstReferenceIdeal
public import proofs.«01_k».proof.Proof.Gen.MlpFirstReferenceIdeal.Run
public import proofs.«01_k».proof.Proof.Gen.MlpFirstReferenceIdeal.Read
public import proofs.«01_k».proof.Proof.Gen.MlpLast
public import proofs.«01_k».proof.Proof.Gen.MlpLast.Skeleton
public import proofs.«01_k».proof.Proof.Gen.MlpLast.Launch
public import proofs.«01_k».proof.Proof.Gen.MlpLast.Points
public import proofs.«01_k».proof.Proof.Gen.MlpLast.Frame
public import proofs.«01_k».proof.Proof.Gen.MlpLastIdeal
public import proofs.«01_k».proof.Proof.Gen.MlpLastIdeal.Skeleton
public import proofs.«01_k».proof.Proof.Gen.MlpLastIdeal.Launch
public import proofs.«01_k».proof.Proof.Gen.MlpLastIdeal.Points
public import proofs.«01_k».proof.Proof.Gen.MlpLastIdeal.Frame
public import proofs.«01_k».proof.Proof.Gen.MlpLastIdeal.Value
public import proofs.«01_k».proof.Proof.Gen.MlpLastReferenceIdeal
public import proofs.«01_k».proof.Proof.Gen.MlpLastReferenceIdeal.Run
public import proofs.«01_k».proof.Proof.Gen.MlpLastReferenceIdeal.Read
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.ConvReferenceIdeal
public import proofs.«01_k».proof.Proof.Gen.ConvReferenceIdeal.Run
public import proofs.«01_k».proof.Proof.Gen.ConvReferenceIdeal.Read
public import proofs.«01_k».proof.Proof.FrameK
public import proofs.«01_k».proof.Proof.FrameIdeal
public import proofs.«01_k».proof.Proof.MlpLast
public import proofs.«01_k».proof.Proof.MlpFirst
public import proofs.«01_k».proof.Proof.ConvRef
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.MlpLast.Gen.facts, Cert.MlpLastIdeal.Gen.facts,
  Cert.MlpLastReferenceIdeal.Gen.facts, Cert.MlpFirst.Gen.facts, Cert.MlpFirstIdeal.Gen.facts, Cert.MlpFirstReferenceIdeal.Gen.facts,
  Cert.Conv.Gen.facts, Cert.ConvIdeal.Gen.facts, Cert.ConvReferenceIdeal.Gen.facts,
  fun m ρ _ => Cert.Kernel.Hand.frame_run m ρ (fun _ _ => constant (F := Bits) S1x2048x512 .bf16 0#16),
  fun m ρ _ => Cert.KernelIdeal.Hand.frame_run m ρ (fun _ _ => constant (F := Ideal) Cert.KernelIdeal.S1x2048x512 .bf16 0#16),
  fun m ρ _ => Cert.MlpLast.Gen.frame m ρ,
  fun m ρ _ => Cert.MlpLastIdeal.Gen.frame m ρ,
  fun m ρ _ => (θ_run _ _ _).mono (fun r h => ⟨fun c => (h c).2, Idealize.ShloMosaic.sem_eq_zero_of_no_sems (by decide) r.2⟩) (Cert.MlpLastReferenceIdeal.Value.run (F := Ideal) m ρ),
  fun m ρ _ => Cert.MlpFirst.Gen.frame m ρ,
  fun m ρ _ => Cert.MlpFirstIdeal.Gen.frame m ρ,
  fun m ρ _ => (θ_run _ _ _).mono (fun r h => ⟨fun c => (h c).2, Idealize.ShloMosaic.sem_eq_zero_of_no_sems (by decide) r.2⟩) (Cert.MlpFirstReferenceIdeal.Value.run (F := Ideal) m ρ),
  fun m ρ _ => Cert.Conv.Gen.frame m ρ,
  fun m ρ _ => Cert.ConvIdeal.Gen.frame m ρ,
  fun m ρ _ => (θ_run _ _ _).mono (fun r h => ⟨fun c => (h c).2, Idealize.ShloMosaic.sem_eq_zero_of_no_sems (by decide) r.2⟩) (Cert.ConvReferenceIdeal.Value.run (F := Ideal) m ρ),
  ⟨IdealRules.named_const.statement _ _ _ _ _ rfl, IdealRules.named_const.statement _ _ _ _ _ rfl⟩,
  trivial,
  fun m g m' g' _ hagree => ⟨fun c => Cert.MlpLastIdeal.Value.G5 m c, Cert.MlpLastIdeal.Value.run m g,
    (θ_run _ _ _).mono (fun _ h c => ⟨(h c).1.trans (Cert.Proof.MlpLast.result_eq m m' c (hagree c).1 (hagree c).2.1 (hagree c).2.2.1 (hagree c).2.2.2.1 (hagree c).2.2.2.2), (h c).2⟩)
      (Cert.MlpLastReferenceIdeal.Value.run (F := Ideal) m' g')⟩,
  trivial,
  fun m g m' g' _ hagree => ⟨fun c => Cert.MlpFirstIdeal.Value.G5 m c, Cert.MlpFirstIdeal.Value.run m g,
    (θ_run _ _ _).mono (fun _ h c => ⟨((h c).1.trans (Cert.MlpFirstReferenceIdeal.Read.val_main_v24_eq _ _ _ _)).trans
        (Cert.Proof.MlpFirst.result_eq m m' c (hagree c).1 (hagree c).2.1 (hagree c).2.2.1 (hagree c).2.2.2.1), (h c).2⟩)
      (Cert.MlpFirstReferenceIdeal.Value.run (F := Ideal) m' g')⟩,
  trivial,
  fun m g m' g' _ hagree => ⟨fun c => Cert.ConvIdeal.Value.G10 m c, Cert.ConvIdeal.Value.run m g,
    (θ_run _ _ _).mono (fun _ h c => ⟨((h c).1.trans (Cert.ConvReferenceIdeal.Read.val_main_v286_eq _)).trans
        (Cert.Proof.Conv.result_eq _ _ _ _ _ _ _ _ _ _ m c (hagree c).1 (hagree c).2.1 (hagree c).2.2.1 (hagree c).2.2.2.1 (hagree c).2.2.2.2.1
          (hagree c).2.2.2.2.2.1 (hagree c).2.2.2.2.2.2.1 (hagree c).2.2.2.2.2.2.2.1 (hagree c).2.2.2.2.2.2.2.2.1 (hagree c).2.2.2.2.2.2.2.2.2), (h c).2⟩)
      (Cert.ConvReferenceIdeal.Value.run (F := Ideal) m' g')⟩⟩

end Cert.Proof

end
